-- ==== Defs.lean ====
def Pre_Kernel [hPre_swapped_Kernel : Cert.Pre_swapped_Kernel.Facts] (m : (ℓ : Loc Cert.Kernel.nD Cert.Kernel.τ Cert.Kernel.sig) → Buf (Elt Bits) ℓ) : Prop :=
  ∀ c : Dev Cert.Kernel.nD,
    (Cert.Pre_swapped_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_kept_Kernel [hPre_kept_Kernel : Cert.Pre_kept_Kernel.Facts] (m : (ℓ : Loc Cert.Kernel.nD Cert.Kernel.τ Cert.Kernel.sig) → Buf (Elt Bits) ℓ) : Prop :=
  ∀ c : Dev Cert.Kernel.nD,
    (Cert.Pre_kept_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swapped_Kernel : Cert.Pre_swapped_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swapped_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_kept_Kernel [hPre_kept_Kernel : Cert.Pre_kept_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_kept_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swapped_ReferenceIdeal [hPre_swapped_ReferenceIdeal : Cert.Pre_swapped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swapped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_kept_ReferenceIdeal [hPre_kept_ReferenceIdeal : Cert.Pre_kept_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kept_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swapped_Kernel : Cert.Pre_swapped_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_kept_Kernel [hKernel : Cert.Kernel.Facts] [hPre_kept_Kernel : Cert.Pre_kept_Kernel.Facts] : Prop :=
  ∀ (m : (ℓ : Loc Cert.Kernel.nD Cert.Kernel.τ Cert.Kernel.sig) → Buf (Elt Bits) ℓ) (g : Dev Cert.Kernel.nD → PrngReg), Pre_Kernel_kept_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_kept_Kernel [hKernelIdeal : Cert.KernelIdeal.Facts] [hPre_kept_Kernel : Cert.Pre_kept_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swapped_ReferenceIdeal [hReferenceIdeal : Cert.ReferenceIdeal.Facts] [hPre_swapped_ReferenceIdeal : Cert.Pre_swapped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swapped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_kept_ReferenceIdeal [hReferenceIdeal : Cert.ReferenceIdeal.Facts] [hPre_kept_ReferenceIdeal : Cert.Pre_kept_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kept_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_kept_Kernel [hKernelIdeal : Cert.KernelIdeal.Facts] [hReferenceIdeal : Cert.ReferenceIdeal.Facts] [hPre_kept_Kernel : Cert.Pre_kept_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kept_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swapped_Kernel : Cert.Pre_swapped_Kernel.Facts) (hPre_kept_Kernel : Cert.Pre_kept_Kernel.Facts) (hPre_swapped_ReferenceIdeal : Cert.Pre_swapped_ReferenceIdeal.Facts) (hPre_kept_ReferenceIdeal : Cert.Pre_kept_ReferenceIdeal.Facts),
    quiescent_Kernel (hKernel := hKernel) (hPre_swapped_Kernel := hPre_swapped_Kernel)
    ∧ quiescent_Kernel_pre_kept_Kernel (hKernel := hKernel) (hPre_kept_Kernel := hPre_kept_Kernel)
    ∧ quiescent_KernelIdeal (hKernelIdeal := hKernelIdeal) (hPre_swapped_Kernel := hPre_swapped_Kernel)
    ∧ quiescent_KernelIdeal_pre_kept_Kernel (hKernelIdeal := hKernelIdeal) (hPre_kept_Kernel := hPre_kept_Kernel)
    ∧ quiescent_ReferenceIdeal (hReferenceIdeal := hReferenceIdeal)
    ∧ quiescent_ReferenceIdeal_pre_swapped_ReferenceIdeal (hReferenceIdeal := hReferenceIdeal) (hPre_swapped_ReferenceIdeal := hPre_swapped_ReferenceIdeal)
    ∧ quiescent_ReferenceIdeal_pre_kept_ReferenceIdeal (hReferenceIdeal := hReferenceIdeal) (hPre_kept_ReferenceIdeal := hPre_kept_ReferenceIdeal)
    ∧ preserves_Kernel_KernelIdeal
    ∧ algebraic_KernelIdeal_ReferenceIdeal (hKernelIdeal := hKernelIdeal) (hReferenceIdeal := hReferenceIdeal) (hPre_swapped_Kernel := hPre_swapped_Kernel)
    ∧ algebraic_KernelIdeal_ReferenceIdeal_pre_kept_Kernel (hKernelIdeal := hKernelIdeal) (hReferenceIdeal := hReferenceIdeal) (hPre_kept_Kernel := hPre_kept_Kernel)
-- ==== Pre_kept_Kernel.lean ====
abbrev S1x2048x1024 : Shape := ⟨3, ![1, 2048, 1024]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x2048x1024 .bf16) (main_arg1 : IVec S2 32) : IVec S2 1 :=
  let main_c : IVec S2 32 := fun i => lit0 (S2.rowMajor i)
  let main_v0 : IVec S2 1 := cmpi .eq main_arg1 main_c
  main_v0
-- ==== Pre_kept_ReferenceIdeal.lean ====
abbrev S2x2048x1024 : Shape := ⟨3, ![2, 2048, 1024]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x2048x1024 .bf16) (main_arg1 : IVec S2 32) : IVec S2 1 :=
  let main_c : IVec S2 32 := fun i => lit0 (S2.rowMajor i)
  let main_v0 : IVec S2 1 := cmpi .eq main_arg1 main_c
  main_v0
-- ==== Pre_swapped_Kernel.lean ====
abbrev S1x2048x1024 : Shape := ⟨3, ![1, 2048, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x2048x1024 .bf16) (main_arg1 : IVec S2 32) : IVec S2 1 :=
  let main_c : IVec S2 32 := fun i => lit0 (S2.rowMajor i)
  let main_v0 : IVec S2 1 := cmpi .eq main_arg1 main_c
  main_v0
-- ==== Pre_swapped_ReferenceIdeal.lean ====
abbrev S2x2048x1024 : Shape := ⟨3, ![2, 2048, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x2048x1024 .bf16) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x2048x1024 : Shape := ⟨3, ![1, 2048, 1024]⟩
abbrev S2 : Shape := ⟨1, ![2]⟩
abbrev S2x1x256x1024 : Shape := ⟨4, ![2, 1, 256, 1024]⟩
abbrev S8 : Shape := ⟨1, ![8]⟩
abbrev S1 : Shape := ⟨1, ![1]⟩
abbrev S_ : Shape := ⟨0, ![]⟩
abbrev S1x1x256x1024 : Shape := ⟨4, ![1, 1, 256, 1024]⟩
abbrev S1x256x1024 : Shape := ⟨3, ![1, 256, 1024]⟩
abbrev S256x1024 : Shape := ⟨2, ![256, 1024]⟩

abbrev nBuf : Space → Nat
  | .hbm => 3
  | .vmem => 2
  | .smem => 1
  | _ => 0

abbrev bufTy : (tb : Table) → Fin (tcTables nBuf tb) → BufTy
  | .hbm, ⟨0, _⟩ => ⟨S1x2048x1024, .bf16⟩
  | .hbm, ⟨1, _⟩ => ⟨S2, .i32⟩
  | .hbm, ⟨2, _⟩ => ⟨S1x2048x1024, .bf16⟩
  | .local _ .vmem, ⟨0, _⟩ => ⟨S2x1x256x1024, .bf16⟩
  | .local _ .vmem, ⟨1, _⟩ => ⟨S1x2048x1024, .bf16⟩
  | .local _ .smem, ⟨0, _⟩ => ⟨S2, .i32⟩
  | _, _ => ⟨S1x2048x1024, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32_5 : BitVec 32 := 0#32
  let c8_i32_4 : BitVec 32 := 8#32
  let v18 : BitVec 32 := Scalar.muli v10 c8_i32_4
  let v19 : BitVec 32 := Scalar.addi c0_i32_5 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v20 : BitVec 32 := Scalar.muli v5 c4_i32_6
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v22 : BitVec 32 := Scalar.muli v8 c1_i32_7
  let v23 : BitVec 32 := Scalar.addi v21 v22
  v23.toNat
def k0_cond2 (d0 : Dev nD) (v10 : BitVec 32) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 1 := Scalar.cmpi .ne v10 v2
  let v16 : BitVec 32 := Scalar.extui v15
  let c0_i32_2 : BitVec 32 := 0#32
  let v17 : BitVec 1 := Scalar.cmpi .ne v16 c0_i32_2
  v17

def k0_dev2 (d0 : Dev nD) (v10 : BitVec 32) : Nat :=
  let c0_i32_48 : BitVec 32 := 0#32
  let c8_i32_47 : BitVec 32 := 8#32
  let v49 : BitVec 32 := Scalar.muli v10 c8_i32_47
  let v50 : BitVec 32 := Scalar.addi c0_i32_48 v49
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v51 : BitVec 32 := Scalar.muli v5 c4_i32_49
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v53 : BitVec 32 := Scalar.muli v8 c1_i32_50
  let v54 : BitVec 32 := Scalar.addi v52 v53
  v54.toNat
def k0_dev3 (d0 : Dev nD) (v10 : BitVec 32) : Nat :=
  let c0_i32_80 : BitVec 32 := 0#32
  let c8_i32_79 : BitVec 32 := 8#32
  let v76 : BitVec 32 := Scalar.muli v10 c8_i32_79
  let v77 : BitVec 32 := Scalar.addi c0_i32_80 v76
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v78 : BitVec 32 := Scalar.muli v5 c4_i32_81
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v80 : BitVec 32 := Scalar.muli v8 c1_i32_82
  let v81 : BitVec 32 := Scalar.addi v79 v80
  v81.toNat
def k0_dev4 (d0 : Dev nD) (v10 : BitVec 32) : Nat :=
  let c0_i32_113 : BitVec 32 := 0#32
  let c8_i32_112 : BitVec 32 := 8#32
  let v103 : BitVec 32 := Scalar.muli v10 c8_i32_112
  let v104 : BitVec 32 := Scalar.addi c0_i32_113 v103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_114 : BitVec 32 := 4#32
  let v105 : BitVec 32 := Scalar.muli v5 c4_i32_114
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v107 : BitVec 32 := Scalar.muli v8 c1_i32_115
  let v108 : BitVec 32 := Scalar.addi v106 v107
  v108.toNat
def k0_dev5 (d0 : Dev nD) (v10 : BitVec 32) : Nat :=
  let c0_i32_145 : BitVec 32 := 0#32
  let c8_i32_144 : BitVec 32 := 8#32
  let v130 : BitVec 32 := Scalar.muli v10 c8_i32_144
  let v131 : BitVec 32 := Scalar.addi c0_i32_145 v130
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_146 : BitVec 32 := 4#32
  let v132 : BitVec 32 := Scalar.muli v5 c4_i32_146
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v134 : BitVec 32 := Scalar.muli v8 c1_i32_147
  let v135 : BitVec 32 := Scalar.addi v133 v134
  v135.toNat
def k0_dev6 (d0 : Dev nD) (v10 : BitVec 32) : Nat :=
  let c0_i32_178 : BitVec 32 := 0#32
  let c8_i32_177 : BitVec 32 := 8#32
  let v157 : BitVec 32 := Scalar.muli v10 c8_i32_177
  let v158 : BitVec 32 := Scalar.addi c0_i32_178 v157
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_179 : BitVec 32 := 4#32
  let v159 : BitVec 32 := Scalar.muli v5 c4_i32_179
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_180 : BitVec 32 := 1#32
  let v161 : BitVec 32 := Scalar.muli v8 c1_i32_180
  let v162 : BitVec 32 := Scalar.addi v160 v161
  v162.toNat
def k0_dev7 (d0 : Dev nD) (v10 : BitVec 32) : Nat :=
  let c0_i32_210 : BitVec 32 := 0#32
  let c8_i32_209 : BitVec 32 := 8#32
  let v184 : BitVec 32 := Scalar.muli v10 c8_i32_209
  let v185 : BitVec 32 := Scalar.addi c0_i32_210 v184
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_211 : BitVec 32 := 4#32
  let v186 : BitVec 32 := Scalar.muli v5 c4_i32_211
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v188 : BitVec 32 := Scalar.muli v8 c1_i32_212
  let v189 : BitVec 32 := Scalar.addi v187 v188
  v189.toNat
def k0_dev8 (d0 : Dev nD) (v10 : BitVec 32) : Nat :=
  let c0_i32_235 : BitVec 32 := 0#32
  let c8_i32_234 : BitVec 32 := 8#32
  let v206 : BitVec 32 := Scalar.muli v10 c8_i32_234
  let v207 : BitVec 32 := Scalar.addi c0_i32_235 v206
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_236 : BitVec 32 := 4#32
  let v208 : BitVec 32 := Scalar.muli v5 c4_i32_236
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_237 : BitVec 32 := 1#32
  let v210 : BitVec 32 := Scalar.muli v8 c1_i32_237
  let v211 : BitVec 32 := Scalar.addi v209 v210
  v211.toNat
def k0_dev9 (d0 : Dev nD) (v10 : BitVec 32) : Nat :=
  let c0_i32_260 : BitVec 32 := 0#32
  let c8_i32_259 : BitVec 32 := 8#32
  let v228 : BitVec 32 := Scalar.muli v10 c8_i32_259
  let v229 : BitVec 32 := Scalar.addi c0_i32_260 v228
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v230 : BitVec 32 := Scalar.muli v5 c4_i32_261
  let v231 : BitVec 32 := Scalar.addi v229 v230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v232 : BitVec 32 := Scalar.muli v8 c1_i32_262
  let v233 : BitVec 32 := Scalar.addi v231 v232
  v233.toNat

def k0_chk1 (d0 : Dev nD) (v10 : BitVec 32) : Prop :=
  (∀ (k0_h2 : k0_cond2 d0 v10 = 1#1), (k0_dev1 d0 v10) < nD) ∧
  (∀ (k0_h2 : k0_cond2 d0 v10 = 1#1), (k0_dev2 d0 v10) < nD) ∧
  (∀ (k0_h2 : k0_cond2 d0 v10 = 1#1), (k0_dev3 d0 v10) < nD) ∧
  (∀ (k0_h2 : k0_cond2 d0 v10 = 1#1), (k0_dev4 d0 v10) < nD) ∧
  (∀ (k0_h2 : k0_cond2 d0 v10 = 1#1), (k0_dev5 d0 v10) < nD) ∧
  (∀ (k0_h2 : k0_cond2 d0 v10 = 1#1), (k0_dev6 d0 v10) < nD) ∧
  (∀ (k0_h2 : k0_cond2 d0 v10 = 1#1), (k0_dev7 d0 v10) < nD) ∧
  (∀ (k0_h2 : k0_cond2 d0 v10 = 1#1), (k0_dev8 d0 v10) < nD) ∧
  (∀ (k0_h2 : k0_cond2 d0 v10 = 1#1), (k0_dev9 d0 v10) < nD)
theorem k0_dev1_lt : ∀ (d0 : Dev nD) (v10 : BitVec 32) (k0_hw1 : k0_chk1 d0 v10), ∀ (k0_h2 : k0_cond2 d0 v10 = 1#1), (k0_dev1 d0 v10) < nD := fun d0 v10 k0_hw1 k0_h2 => k0_hw1.1 k0_h2
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1.2.1 k0_h2
theorem k0_dev3_lt : ∀ (d0 : Dev nD) (v10 : BitVec 32) (k0_hw1 : k0_chk1 d0 v10), ∀ (k0_h2 : k0_cond2 d0 v10 = 1#1), (k0_dev3 d0 v10) < nD := fun d0 v10 k0_hw1 k0_h2 => k0_hw1.2.2.1 k0_h2
theorem k0_dev4_lt : ∀ (d0 : Dev nD) (v10 : BitVec 32) (k0_hw1 : k0_chk1 d0 v10), ∀ (k0_h2 : k0_cond2 d0 v10 = 1#1), (k0_dev4 d0 v10) < nD := fun d0 v10 k0_hw1 k0_h2 => k0_hw1.2.2.2.1 k0_h2
theorem k0_dev5_lt : ∀ (d0 : Dev nD) (v10 : BitVec 32) (k0_hw1 : k0_chk1 d0 v10), ∀ (k0_h2 : k0_cond2 d0 v10 = 1#1), (k0_dev5 d0 v10) < nD := fun d0 v10 k0_hw1 k0_h2 => k0_hw1.2.2.2.2.1 k0_h2
theorem k0_dev6_lt : ∀ (d0 : Dev nD) (v10 : BitVec 32) (k0_hw1 : k0_chk1 d0 v10), ∀ (k0_h2 : k0_cond2 d0 v10 = 1#1), (k0_dev6 d0 v10) < nD := fun d0 v10 k0_hw1 k0_h2 => k0_hw1.2.2.2.2.2.1 k0_h2
theorem k0_dev7_lt : ∀ (d0 : Dev nD) (v10 : BitVec 32) (k0_hw1 : k0_chk1 d0 v10), ∀ (k0_h2 : k0_cond2 d0 v10 = 1#1), (k0_dev7 d0 v10) < nD := fun d0 v10 k0_hw1 k0_h2 => k0_hw1.2.2.2.2.2.2.1 k0_h2
theorem k0_dev8_lt : ∀ (d0 : Dev nD) (v10 : BitVec 32) (k0_hw1 : k0_chk1 d0 v10), ∀ (k0_h2 : k0_cond2 d0 v10 = 1#1), (k0_dev8 d0 v10) < nD := fun d0 v10 k0_hw1 k0_h2 => k0_hw1.2.2.2.2.2.2.2.1 k0_h2
theorem k0_dev9_lt : ∀ (d0 : Dev nD) (v10 : BitVec 32) (k0_hw1 : k0_chk1 d0 v10), ∀ (k0_h2 : k0_cond2 d0 v10 = 1#1), (k0_dev9 d0 v10) < nD := fun d0 v10 k0_hw1 k0_h2 => k0_hw1.2.2.2.2.2.2.2.2 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .bf16⟩
  | .hbm, ⟨14, _⟩ => ⟨S2x2048x1024, .f32⟩
  | .hbm, ⟨15, _⟩ => ⟨S2x2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Steps.lean ====
/-
# Steps: the pieces of the buffers, and one rule per kind of memory operation

Device `c` moves its block of `x` in eight chunks of 256 rows. A chunk is read into one of two staging
slots, copied by the vector unit into the send buffer, and sent out of it. Each buffer is held piece by
piece (`owns`): a chunk of the input, of the send buffer or of the output, or a staging slot, each with the
values read through it. The rules below are stated once for every chunk `k` and slot `j`; a program names
its memrefs by literal offsets, so each rule takes the program's memref with an equation to the named piece.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Memref
public import Idealize.ShloMosaic.Lib.ViewIndex
public import Idealize.ShloMosaic.Lib.Transfers
public import Idealize.ShloMosaic.Lib.Rounds
public import Idealize.ShloMosaic.Lib.Tactic

@[expose] public section

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans (embR (A := UR sig nD τ) (B := UB × Counters))
abbrev EC : UEmb Counters (MT nD τ sig Unit (Elt F) ℕ UU ℕ) := countersEmb

instance ER_landsIn : (ER (F := F)).LandsIn (upEmb : UEmb _ 𝕄) := by unfold ER; infer_instance

abbrev 𝒱₀ : Variants := Variants.none

/-! ## The pieces -/

/-- A chunk lies inside the block, -/
theorem chunk_inb (k : Fin 8) : ∀ a, (![0, 256 * k.val, 0] : Fin 3 → ℕ) a + S1x256x1024.size a ≤ S1x2048x1024.size a := by
  revert k; decide
/-- a slot inside the load buffer, -/
theorem slot_inb (j : Fin 2) : ∀ a, (![j.val, 0, 0, 0] : Fin 4 → ℕ) a + S1x1x256x1024.size a ≤ S2x1x256x1024.size a := by
  revert j; decide
/-- a load's semaphore inside its array, -/
theorem sem2_inb (j : Fin 2) : ∀ a, (![j.val] : Fin 1 → ℕ) a + S1.size a ≤ S2.size a := by revert j; decide
/-- and a chunk's inside its own. -/
theorem sem8_inb (k : Fin 8) : ∀ a, (![k.val] : Fin 1 → ℕ) a + S1.size a ≤ S8.size a := by revert k; decide

/-- Rows `256 k` to `256 k + 255` of a block. -/
abbrev chunkR (k : Fin 8) : Rect S1x2048x1024 := Rect.unit (s := S1x2048x1024) ![0, 256 * k.val, 0] S1x256x1024.size (chunk_inb k)
/-- Staging slot `j`. -/
abbrev slotR (j : Fin 2) : Rect S2x1x256x1024 := Rect.unit (s := S2x1x256x1024) ![j.val, 0, 0, 0] S1x1x256x1024.size (slot_inb j)

/-- Chunk `k` of the input block, of the output block and of the send buffer. -/
abbrev aC (k : Fin 8) : Memref sig .tc .hbm S1x256x1024 .bf16 := (Memref.whole main_arg0).slice (chunkR k) (fun _ => rfl)
abbrev oC (k : Fin 8) : Memref sig .tc .hbm S1x256x1024 .bf16 := (Memref.whole main_v1).slice (chunkR k) (fun _ => rfl)
abbrev sC (k : Fin 8) : Memref sig .tc .vmem S1x256x1024 .bf16 := (Memref.whole cc0_scratch1).slice (chunkR k) (fun _ => rfl)
/-- Slot `j` of the staging buffer, with its leading axis and without it. -/
abbrev lS4 (j : Fin 2) : Memref sig .tc .vmem S1x1x256x1024 .bf16 := (Memref.whole cc0_scratch0).slice (slotR j) (fun _ => rfl)
abbrev lS (j : Fin 2) : Memref sig .tc .vmem S1x256x1024 .bf16 := (lS4 j).squeeze S1x256x1024 squeezes_S1x1x256x1024_S1x256x1024

/-- The semaphores: of slot `j`'s loads, of chunk `k`'s departure and of its arrival, and the barrier. -/
abbrev ldS (j : Fin 2) : DmaSem sig := ((cc0_scratch2.slice (Rect.unit (s := S2) ![j.val] S1.size (sem2_inb j))).squeeze S_ squeezes_S1_S_).sem
abbrev sdS (k : Fin 8) : DmaSem sig := ((cc0_scratch3.slice (Rect.unit (s := S8) ![k.val] S1.size (sem8_inb k))).squeeze S_ squeezes_S1_S_).sem
abbrev rvS (k : Fin 8) : DmaSem sig := ((cc0_scratch4.slice (Rect.unit (s := S8) ![k.val] S1.size (sem8_inb k))).squeeze S_ squeezes_S1_S_).sem
abbrev barS : Sem sig := (SemArray.scalar (sig.barrier 0 rfl) : Sems sig S_).sem

/-- The values of a chunk. -/
abbrev Chunk (F : FTy → Type) : Type := S1x256x1024.Idx → Elt F .bf16

/-- A chunk's transfer credit. -/
abbrev N : ℕ := (oC 0).view.dmaCredit
/-- A chunk is worth at least one unit. -/
theorem N_pos : 0 < N := View.dmaCredit_pos _ (by decide)

/-! ## The chunk and slot rectangles partition their buffers -/

/-- An index lies in chunk `k` when its row divided by 256 is `k`. -/
theorem mem_chunkR (k : Fin 8) (x : S1x2048x1024.Idx) : x ∈ (chunkR k).set ↔ (x 1).val / 256 = k.val := by
  rw [Rect.mem_set_unit]
  have h0 := (x 0).isLt; have h1 := (x 1).isLt; have h2 := (x 2).isLt
  constructor
  · intro h
    have := h 1
    simp [S1x256x1024] at this
    omega
  · intro h a
    fin_cases a <;> simp [S1x2048x1024, S1x256x1024] at h0 h1 h2 ⊢ <;> omega

/-- Distinct chunks share no index, -/
theorem chunkR_disjoint (k k' : Fin 8) (h : k ≠ k') : Disjoint (chunkR k).set (chunkR k').set :=
  Finset.disjoint_left.mpr fun x hx hx' => h (Fin.ext (((mem_chunkR k x).mp hx).symm.trans ((mem_chunkR k' x).mp hx')))

/-- and the eight of them are all. -/
theorem chunkR_cover : (Finset.univ : Finset (Fin 8)).biUnion (fun k => (chunkR k).set) = Finset.univ :=
  Finset.eq_univ_iff_forall.mpr fun x => Finset.mem_biUnion.mpr
    ⟨⟨(x 1).val / 256, by have := (x 1).isLt; simp [S1x2048x1024] at this; omega⟩, Finset.mem_univ _, (mem_chunkR _ x).mpr rfl⟩

/-- An index lies in slot `j` when its first coordinate is `j`. -/
theorem mem_slotR (j : Fin 2) (x : S2x1x256x1024.Idx) : x ∈ (slotR j).set ↔ (x 0).val = j.val := by
  rw [Rect.mem_set_unit]
  have h0 := (x 0).isLt; have h1 := (x 1).isLt; have h2 := (x 2).isLt; have h3 := (x 3).isLt
  constructor
  · intro h
    have := h 0
    simp [S1x1x256x1024] at this
    omega
  · intro h a
    fin_cases a <;> simp [S2x1x256x1024, S1x1x256x1024] at h0 h1 h2 h3 ⊢ <;> omega

/-- The slots share no index, -/
theorem slotR_disjoint (j j' : Fin 2) (h : j ≠ j') : Disjoint (slotR j).set (slotR j').set :=
  Finset.disjoint_left.mpr fun x hx hx' => h (Fin.ext (((mem_slotR j x).mp hx).symm.trans ((mem_slotR j' x).mp hx')))

/-- and the two of them are all. -/
theorem slotR_cover : (Finset.univ : Finset (Fin 2)).biUnion (fun j => (slotR j).set) = Finset.univ :=
  Finset.eq_univ_iff_forall.mpr fun x => Finset.mem_biUnion.mpr
    ⟨⟨(x 0).val, by have := (x 0).isLt; simpa [S2x1x256x1024] using this⟩, Finset.mem_univ _, (mem_slotR _ x).mpr rfl⟩

/-! ## Pieces and whole buffers -/

/-- Chunk `k` of a block's values. -/
def part (X : S1x2048x1024.Idx → Elt F .bf16) (k : Fin 8) : Chunk F := fun i => X ((chunkR k).emb i)

omit [FloatOps F] in
/-- A memref of a block's shape, owned at `X`, is its eight chunks owned at theirs, -/
theorem split_chunks (c : Dev nD) {sp : Space} (m : Memref sig .tc sp S1x2048x1024 .bf16) (X : S1x2048x1024.Idx → Elt F .bf16) :
    (owns (c : Thread nD τ) m fullShare X : sProp 𝕄)
      ⊢ bigSep Finset.univ fun k : Fin 8 => owns (c : Thread nD τ) (m.slice (chunkR k) (fun _ => rfl)) fullShare (part X k) :=
  owns_rects (c : Thread nD τ) m fullShare chunkR (fun _ _ => rfl) chunkR_disjoint chunkR_cover X

/-- and the eight chunks the memref. -/
theorem join_chunks (c : Dev nD) {sp : Space} (m : Memref sig .tc sp S1x2048x1024 .bf16) (X : S1x2048x1024.Idx → Elt F .bf16) :
    bigSep Finset.univ (fun k : Fin 8 => (owns (c : Thread nD τ) (m.slice (chunkR k) (fun _ => rfl)) fullShare (part X k) : sProp 𝕄))
      ⊢ owns (c : Thread nD τ) m fullShare X :=
  owns_of_rects (c : Thread nD τ) m fullShare chunkR (fun _ _ => rfl) chunkR_disjoint chunkR_cover X

omit [FloatOps F] in
/-- Dropping a memref's unit axes reindexes what is read through it. -/
theorem owns_squeeze (c : Dev nD) {sp : Space} {s s' : Shape} {e : EltTy} (m : Memref sig .tc sp s e) (h : s.Squeezes s')
    (X : s.Idx → Elt F e) :
    (owns (c : Thread nD τ) m fullShare X : sProp 𝕄)
      = owns (c : Thread nD τ) (m.squeeze s' h) fullShare (fun i => X (Shape.reshapeEquiv h.numel_eq i)) := by
  unfold owns
  have hs : (m.squeeze s' h).view.set = m.view.set := by simp
  have hr (f : m.view.ty.Contents (Elt F)) : (m.squeeze s' h).view.read (Elt F) f = fun i => m.view.read (Elt F) f (Shape.reshapeEquiv h.numel_eq i) := rfl
  have key (f : m.view.ty.Contents (Elt F)) : (m.squeeze s' h).view.read (Elt F) f = (fun i => X (Shape.reshapeEquiv h.numel_eq i)) ↔ m.view.read (Elt F) f = X := by
    rw [hr]
    constructor
    · intro hf; funext x
      have := congrFun hf ((Shape.reshapeEquiv h.numel_eq).symm x)
      simpa using this
    · rintro rfl; rfl
  simp only [key, hs]

/-- A chunk's values at a staging slot's own shape. -/
def unsq (X : Chunk F) : S1x1x256x1024.Idx → Elt F .bf16 :=
  fun i => X ((Shape.reshapeEquiv squeezes_S1x1x256x1024_S1x256x1024.numel_eq).symm i)

omit [FloatOps F] in
/-- Holding a slot in three dimensions is holding it in four. -/
theorem owns_slot (c : Dev nD) (j : Fin 2) (X : Chunk F) :
    (owns (c : Thread nD τ) (lS j) fullShare X : sProp 𝕄) = owns (c : Thread nD τ) (lS4 j) fullShare (unsq X) := by
  rw [owns_squeeze c (lS4 j) squeezes_S1x1x256x1024_S1x256x1024 (unsq X)]
  congr 1; funext i; simp [unsq]

/-- What the vector unit stores of a chunk read from a slot is the chunk. -/
theorem relayout (X : Chunk F) :
    shapeCast S1x256x1024 (shapeCast S256x1024 (unsq X) shapeCasts_S1x1x256x1024_S256x1024) shapeCasts_S256x1024_S1x256x1024 = X := by
  funext i
  unfold shapeCast unsq
  rw [Shape.reshapeEquiv_reshapeEquiv]
  simp

/-! ## The rules -/

section Rules

variable {α : Type} (c : Dev nD)

/-- Running `p` on device `c` to the postcondition `Q`. -/
abbrev run (p : Prog (TpuEff nD τ sig (Elt F) Λ₀ .tc) α) (Q : α → sProp 𝕄) : sProp 𝕄 :=
  wp frame (wpE (defs₀ (F := F)) 𝒱₀ (c : Thread nD τ) none) Set.univ p Q

/-- A local copy of `src`, holding `X`, into `dst`, under way on the semaphore `q`. -/
def inFlight {sp sp' : Space} {s : Shape} {e : EltTy} (q : DmaSem sig) (src : Memref sig .tc sp s e) (dst : Memref sig .tc sp' s e)
    (X : s.Idx → Elt F e) : sProp 𝕄 :=
  iprop(∃ fs fd, ⌜src.view.read (Elt F) fs = X⌝ ∗ Transfers.Flight EC (c : Thread nD τ) (.dma q) () dst.view.dmaCredit
    iprop((dst.view.loc (c : Thread nD τ) ↦[dst.view.set]{fullShare} (dst.view.write (Elt F) fd (src.view.read (Elt F) fs) Finset.univ))
      ∗ (src.view.loc (c : Thread nD τ) ↦[src.view.set]{fullShare} fs)))

/-- Starting a local copy: the source's values, the destination at any values and the semaphore at zero become the copy
    under way. -/
theorem wp_copy {Q : α → sProp 𝕄} {sp sp' : Space} {s : Shape} {e : EltTy} {q : DmaSem sig} {src : Memref sig .tc sp s e} {dst : Memref sig .tc sp' s e}
    {hsrc : src.view.WordExact} {hdst : dst.view.WordExact} {hsem : DmaTarget.Typed (nD := nD) (τ := τ) (p := .tc) sp (.dma q) (.here dst)}
    {k : PUnit → Prog (TpuEff nD τ sig (Elt F) Λ₀ .tc) α} (X : s.Idx → Elt F e) (hs : 0 < s.numel) :
    iprop(owns (c : Thread nD τ) src fullShare X ∗ (∃ w, owns (c : Thread nD τ) dst fullShare w) ∗ semVal ((c : Thread nD τ), .dma q) 0)
      ⊢ iprop((inFlight c q src dst X -∗ run c (k ⟨⟩) Q)
          -∗ run c (.op (.enqueueDma src (.here dst) (.dma q) hsrc hdst hsem) k) Q) := by
  unfold owns
  iintro ⟨⟨%fs, %hfs, Hs⟩, ⟨%w, %fd, -, Hd⟩, Hv⟩ Hk
  iapply (Transfers.wp_dmaLocal EC 𝒱₀ (c : Thread nD τ) none () dst.view.dmaCredit rfl (View.dmaCredit_pos _ hs) subset_rfl (fs := fs) (fd := fd)) $$ [Hs Hd Hv]
  · isplitl [Hs]; · iexact Hs
    isplitl [Hd] <;> iassumption
  iintro H
  iapply Hk
  unfold inFlight
  iexists fs; iexists fd
  isplitr; · ipureintro; exact hfs
  iexact H

/-- Waiting for a local copy: source and destination both hold its values, the semaphore is at zero again. -/
theorem wp_copied {Q : α → sProp 𝕄} {sp sp' : Space} {s : Shape} {e : EltTy} {q : DmaSem sig} {src : Memref sig .tc sp s e} {dst : Memref sig .tc sp' s e}
    {hsrc : src.view.WordExact} {hdst : dst.view.WordExact}
    {k : PUnit → Prog (TpuEff nD τ sig (Elt F) Λ₀ .tc) α} {X : s.Idx → Elt F e} {O : CellTallies nD τ sig Unit} {W : Waits sig Unit} :
    iprop(inFlight c q src dst X ∗ owes (c : Thread nD τ) O W ∗ MayWait (c : Thread nD τ) (.dma q) () O)
      ⊢ iprop(((owns (c : Thread nD τ) src fullShare X ∗ owns (c : Thread nD τ) dst fullShare X ∗ semVal ((c : Thread nD τ), .dma q) 0
              ∗ owes (c : Thread nD τ) O (insert (SemLoc.dma q, ()) W))
            -∗ run c (k ⟨⟩) Q)
          -∗ run c (.op (.waitDma2 q src dst hsrc hdst) k) Q) := by
  unfold inFlight
  iintro ⟨⟨%fs, %fd, %hfs, H⟩, Ho, Hm⟩ Hk
  iapply (Transfers.wp_waitLocalO EC 𝒱₀ (c : Thread nD τ) none () (N := dst.view.dmaCredit) rfl) $$ [H Ho Hm]
  · isplitl [H]; · iexact H
    isplitl [Ho] <;> iassumption
  iintro ⟨⟨Hd, Hs⟩, Hv, Ho⟩
  iapply Hk
  unfold owns
  isplitl [Hs]
  · iexists fs; isplitr; · ipureintro; exact hfs
    iexact Hs
  isplitl [Hd]
  · iexists _; isplitr
    swap; · iexact Hd
    ipureintro; rw [View.read_write_univ, hfs]
  isplitl [Hv] <;> iassumption

/-- A load of a piece reads what the piece holds. -/
theorem wp_load_piece {Q : α → sProp 𝕄} {sp : CoreSpace} {s : Shape} {e : EltTy} {m : Memref sig .tc sp s e} {r : Rect s} (hr : ∀ a, r.stride a = 1)
    {hl : m.view.LoadsAt r.toLoadRect} {k : (r.shape.Idx → Elt F e) → Prog (TpuEff nD τ sig (Elt F) Λ₀ .tc) α} {X : r.shape.Idx → Elt F e} :
    (owns (c : Thread nD τ) (m.slice r hr) fullShare X : sProp 𝕄)
      ⊢ iprop((owns (c : Thread nD τ) (m.slice r hr) fullShare X -∗ run c (k X) Q)
          -∗ run c (.op (.load m r.toLoadRect hl) k) Q) := by
  unfold owns
  iintro ⟨%f, %hf, H⟩ Hk
  subst hf
  iapply (wp_load_rect 𝒱₀ (c : Thread nD τ) none Set.univ (m := m) (r := r) (S := (m.slice r hr).view.set) subset_rfl) $$ H
  iintro H
  iapply Hk
  iexists f; isplitr; · ipureintro; rfl
  iexact H

/-- A store to a piece leaves the stored values in it. -/
theorem wp_store_piece {Q : α → sProp 𝕄} {sp : CoreSpace} {s : Shape} {e : EltTy} {m : Memref sig .tc sp s e} {r : Rect s} (hr : ∀ a, r.stride a = 1)
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {X : r.shape.Idx → Elt F e} :
    (owns (c : Thread nD τ) (m.slice r hr) fullShare X : sProp 𝕄)
      ⊢ iprop((owns (c : Thread nD τ) (m.slice r hr) fullShare w -∗ run c (k ⟨⟩) Q)
          -∗ run c (.op (.store m r w Finset.univ hx hm) k) Q) := by
  unfold owns
  iintro ⟨%f, -, H⟩ Hk
  iapply (wp_store 𝒱₀ (c : Thread nD τ) none Set.univ (m := m) (r := r) (Mk := Finset.univ) (S := (m.slice r hr).view.set) subset_rfl) $$ H
  iintro H
  iapply Hk
  iexists _; isplitr
  swap; · iexact H
  ipureintro; exact View.read_write_univ _ _

/-! ## The steps of one chunk -/

/-- What device `c` owes, whatever it has waited for. -/
def owesAny (O : CellTallies nD τ sig Unit) : sProp 𝕄 := iprop(∃ W, owes (c : Thread nD τ) O W)

/-- Staging slot `j`, free: at any values, its semaphore at zero. -/
def slotFree (j : Fin 2) : sProp 𝕄 :=
  iprop((∃ w, owns (c : Thread nD τ) (lS j) fullShare w) ∗ semVal ((c : Thread nD τ), .dma (ldS j)) 0)

/-- Chunk `k` of the input, at `X`, being read into slot `j`. -/
def loading (k : Fin 8) (j : Fin 2) (X : Chunk F) : sProp 𝕄 := inFlight c (ldS j) (aC k) (lS j) X

/-- A chunk has elements. -/
theorem chunk_pos : 0 < S1x256x1024.numel := by decide

/-- Starting to read chunk `k` into slot `j`. -/
theorem wp_read_start {Q : α → sProp 𝕄} (k : Fin 8) (j : Fin 2) {q : DmaSem sig} {src : Memref sig .tc .hbm S1x256x1024 .bf16}
    {dst : Memref sig .tc .vmem S1x256x1024 .bf16} (hq : q = ldS j) (hs : src = aC k) (hd : dst = lS j)
    {hsrc : src.view.WordExact} {hdst : dst.view.WordExact} {hsem : DmaTarget.Typed (nD := nD) (τ := τ) (p := .tc) .hbm (.dma q) (.here dst)}
    {kk : PUnit → Prog (TpuEff nD τ sig (Elt F) Λ₀ .tc) α} {X : Chunk F} :
    iprop(slotFree c j ∗ owns (c : Thread nD τ) (aC k) fullShare X)
      ⊢ iprop((loading c k j X -∗ run c (kk ⟨⟩) Q) -∗ run c (.op (.enqueueDma src (.here dst) (.dma q) hsrc hdst hsem) kk) Q) := by
  subst hq hs hd
  unfold slotFree loading
  iintro ⟨⟨Hd, Hv⟩, Hs⟩ Hk
  iapply (wp_copy c X chunk_pos) $$ [Hd Hv Hs]
  · isplitl [Hs]; · iexact Hs
    isplitl [Hd] <;> iassumption
  iexact Hk

/-- Waiting for chunk `k` in slot `j` and copying it to the send buffer: four operations, of which the load of the send
    buffer's old values is not used. The slot is free again, the send buffer's chunk holds the input's. -/
theorem wp_stage {Q : α → sProp 𝕄} (k : Fin 8) (j : Fin 2) {q : DmaSem sig} {src : Memref sig .tc .hbm S1x256x1024 .bf16}
    {dst : Memref sig .tc .vmem S1x256x1024 .bf16} {r₃ : Rect S2x1x256x1024} {r₄ : Rect S1x2048x1024}
    (hq : q = ldS j) (hs : src = aC k) (hd : dst = lS j) (h₃ : r₃ = slotR j) (h₄ : r₄ = chunkR k)
    {hsrc : src.view.WordExact} {hdst : dst.view.WordExact} {hl₃ : (Memref.whole cc0_scratch0 : Memref sig .tc .vmem _ _).view.LoadsAt r₃.toLoadRect}
    {hl₄ : (Memref.whole cc0_scratch1 : Memref sig .tc .vmem _ _).view.LoadsAt r₄.toLoadRect}
    {p : (r₃.shape.Idx → Elt F .bf16) → r₄.shape.Idx → Elt F .bf16}
    (hp : ∀ (e₃ : r₃ = slotR j) (e₄ : r₄ = chunkR k) (X : Chunk F), p (e₃ ▸ unsq X) = (e₄ ▸ X : r₄.shape.Idx → Elt F .bf16))
    {hx : ((Memref.whole cc0_scratch1 : Memref sig .tc .vmem _ _).access r₄).Stores Finset.univ}
    {hm : (Finset.univ : Finset r₄.shape.Idx) = Finset.univ ∨ ∀ a, r₄.stride a = 1}
    {kk : PUnit → Prog (TpuEff nD τ sig (Elt F) Λ₀ .tc) α} {X : Chunk F} {O : CellTallies nD τ sig Unit} :
    iprop(loading c k j X ∗ (∃ w, owns (c : Thread nD τ) (sC k) fullShare w) ∗ owesAny c O ∗ MayWait (c : Thread nD τ) (.dma (ldS j)) () O)
      ⊢ iprop(((slotFree c j ∗ owns (c : Thread nD τ) (aC k) fullShare X ∗ owns (c : Thread nD τ) (sC k) fullShare X ∗ owesAny c O)
            -∗ run c (kk ⟨⟩) Q)
          -∗ run c (.op (.waitDma2 q src dst hsrc hdst) fun _ => .op (.load (Memref.whole cc0_scratch0) r₃.toLoadRect hl₃) fun v =>
            .op (.load (Memref.whole cc0_scratch1) r₄.toLoadRect hl₄) fun _ => .op (.store (Memref.whole cc0_scratch1) r₄ (p v) Finset.univ hx hm) kk) Q) := by
  subst hq hs hd h₃ h₄
  unfold slotFree loading owesAny
  iintro ⟨Hf, ⟨%w, Hs⟩, ⟨%W, Ho⟩, Hm⟩ Hk
  iapply (wp_copied c) $$ [Hf Ho Hm]
  · isplitl [Hf]; · iexact Hf
    isplitl [Ho] <;> iassumption
  iintro ⟨Ha, Hl, Hv, Ho⟩
  ihave Hl := (Entails.of_eq (owns_slot c j X)) $$ Hl
  iapply (wp_load_piece c (m := Memref.whole cc0_scratch0) (r := slotR j) (fun _ => rfl)) $$ Hl
  iintro Hl
  iapply (wp_load_piece c (m := Memref.whole cc0_scratch1) (r := chunkR k) (fun _ => rfl)) $$ Hs
  iintro Hs
  iapply (wp_store_piece c (m := Memref.whole cc0_scratch1) (r := chunkR k) (fun _ => rfl)) $$ Hs
  iintro Hs
  ihave Hs := (Entails.of_eq (congrArg (owns (c : Thread nD τ) (sC k) fullShare) (hp rfl rfl X))) $$ Hs
  ihave Hl := (Entails.of_eq (owns_slot c j X).symm) $$ Hl
  iapply Hk
  isplitl [Hl Hv]
  · isplitl [Hl]; · iexists X; iexact Hl
    iexact Hv
  isplitl [Ha]; · iexact Ha
  isplitl [Hs]; · iexact Hs
  iexists _; iexact Ho

/-- The kept mode's step: chunk `k` goes through slot `j` into the send buffer, and its copy to the output starts. -/
theorem wp_out_start {Q : α → sProp 𝕄} (k : Fin 8) {q : DmaSem sig} {src : Memref sig .tc .vmem S1x256x1024 .bf16}
    {dst : Memref sig .tc .hbm S1x256x1024 .bf16} (hq : q = sdS k) (hs : src = sC k) (hd : dst = oC k)
    {hsrc : src.view.WordExact} {hdst : dst.view.WordExact} {hsem : DmaTarget.Typed (nD := nD) (τ := τ) (p := .tc) .vmem (.dma q) (.here dst)}
    {kk : PUnit → Prog (TpuEff nD τ sig (Elt F) Λ₀ .tc) α} {X : Chunk F} :
    iprop(owns (c : Thread nD τ) (sC k) fullShare X ∗ (∃ w, owns (c : Thread nD τ) (oC k) fullShare w) ∗ semVal ((c : Thread nD τ), .dma (sdS k)) 0)
      ⊢ iprop((inFlight c (sdS k) (sC k) (oC k) X -∗ run c (kk ⟨⟩) Q)
          -∗ run c (.op (.enqueueDma src (.here dst) (.dma q) hsrc hdst hsem) kk) Q) := by
  subst hq hs hd
  exact wp_copy c X chunk_pos

/-- The kept mode's chunk, six operations: chunk `k` is read into slot `j`, goes from there into the send buffer, and its copy
    to the output starts. -/
theorem wp_chunk {Q : α → sProp 𝕄} (k : Fin 8) (j : Fin 2) {q q' q₂ : DmaSem sig} {src src' : Memref sig .tc .hbm S1x256x1024 .bf16}
    {dst dst' : Memref sig .tc .vmem S1x256x1024 .bf16} {r₃ : Rect S2x1x256x1024} {r₄ : Rect S1x2048x1024}
    {src₂ : Memref sig .tc .vmem S1x256x1024 .bf16} {dst₂ : Memref sig .tc .hbm S1x256x1024 .bf16}
    (hq : q = ldS j) (hs : src = aC k) (hd : dst = lS j) (hq' : q' = ldS j) (hs' : src' = aC k) (hd' : dst' = lS j) (h₃ : r₃ = slotR j) (h₄ : r₄ = chunkR k)
    (hq₂ : q₂ = sdS k) (hs₂ : src₂ = sC k) (hd₂ : dst₂ = oC k)
    {hsrc : src.view.WordExact} {hdst : dst.view.WordExact} {hsem : DmaTarget.Typed (nD := nD) (τ := τ) (p := .tc) .hbm (.dma q) (.here dst)}
    {hsrc' : src'.view.WordExact} {hdst' : dst'.view.WordExact} {hl₃ : (Memref.whole cc0_scratch0 : Memref sig .tc .vmem _ _).view.LoadsAt r₃.toLoadRect}
    {hl₄ : (Memref.whole cc0_scratch1 : Memref sig .tc .vmem _ _).view.LoadsAt r₄.toLoadRect}
    {p : (r₃.shape.Idx → Elt F .bf16) → r₄.shape.Idx → Elt F .bf16}
    (hp : ∀ (e₃ : r₃ = slotR j) (e₄ : r₄ = chunkR k) (X : Chunk F), p (e₃ ▸ unsq X) = (e₄ ▸ X : r₄.shape.Idx → Elt F .bf16))
    {hx : ((Memref.whole cc0_scratch1 : Memref sig .tc .vmem _ _).access r₄).Stores Finset.univ}
    {hm : (Finset.univ : Finset r₄.shape.Idx) = Finset.univ ∨ ∀ a, r₄.stride a = 1}
    {hsrc₂ : src₂.view.WordExact} {hdst₂ : dst₂.view.WordExact} {hsem₂ : DmaTarget.Typed (nD := nD) (τ := τ) (p := .tc) .vmem (.dma q₂) (.here dst₂)}
    {kk : PUnit → Prog (TpuEff nD τ sig (Elt F) Λ₀ .tc) α} {X : Chunk F} :
    iprop(slotFree c j ∗ owns (c : Thread nD τ) (aC k) fullShare X ∗ (∃ w, owns (c : Thread nD τ) (sC k) fullShare w)
        ∗ (∃ w, owns (c : Thread nD τ) (oC k) fullShare w) ∗ semVal ((c : Thread nD τ), .dma (sdS k)) 0 ∗ owesAny c 0)
      ⊢ iprop(((slotFree c j ∗ owns (c : Thread nD τ) (aC k) fullShare X ∗ inFlight c (sdS k) (sC k) (oC k) X ∗ owesAny c 0) -∗ run c (kk ⟨⟩) Q)
          -∗ run c (.op (.enqueueDma src (.here dst) (.dma q) hsrc hdst hsem) fun _ => .op (.waitDma2 q' src' dst' hsrc' hdst') fun _ =>
            .op (.load (Memref.whole cc0_scratch0) r₃.toLoadRect hl₃) fun v => .op (.load (Memref.whole cc0_scratch1) r₄.toLoadRect hl₄) fun _ =>
            .op (.store (Memref.whole cc0_scratch1) r₄ (p v) Finset.univ hx hm) fun _ =>
            .op (.enqueueDma src₂ (.here dst₂) (.dma q₂) hsrc₂ hdst₂ hsem₂) kk) Q) := by
  iintro ⟨Hl, Ha, Hs, Ho, Hv, HO⟩ Hk
  iapply (wp_read_start c k j hq hs hd) $$ [Hl Ha]
  · isplitl [Hl] <;> iassumption
  iintro Hf
  iapply (wp_stage c k j hq' hs' hd' h₃ h₄ hp) $$ [Hf Hs HO]
  · isplitl [Hf]; · iexact Hf
    isplitl [Hs]; · iexact Hs
    isplitl [HO]; · iexact HO
    rw [MayWait_zero]; iempintro
  iintro ⟨Hl, Ha, Hs, HO⟩
  iapply (wp_out_start c k hq₂ hs₂ hd₂) $$ [Hs Ho Hv]
  · isplitl [Hs]; · iexact Hs
    isplitl [Ho] <;> iassumption
  iintro Hw
  iapply Hk
  isplitl [Hl]; · iexact Hl
  isplitl [Ha]; · iexact Ha
  isplitl [Hw] <;> iassumption

/-- Waiting for chunk `k` in the output. -/
theorem wp_out_done {Q : α → sProp 𝕄} (k : Fin 8) {q : DmaSem sig} {src : Memref sig .tc .vmem S1x256x1024 .bf16}
    {dst : Memref sig .tc .hbm S1x256x1024 .bf16} (hq : q = sdS k) (hs : src = sC k) (hd : dst = oC k)
    {hsrc : src.view.WordExact} {hdst : dst.view.WordExact}
    {kk : PUnit → Prog (TpuEff nD τ sig (Elt F) Λ₀ .tc) α} {X : Chunk F} :
    iprop(inFlight c (sdS k) (sC k) (oC k) X ∗ owesAny c 0)
      ⊢ iprop(((owns (c : Thread nD τ) (sC k) fullShare X ∗ owns (c : Thread nD τ) (oC k) fullShare X ∗ semVal ((c : Thread nD τ), .dma (sdS k)) 0
              ∗ owesAny c 0) -∗ run c (kk ⟨⟩) Q)
          -∗ run c (.op (.waitDma2 q src dst hsrc hdst) kk) Q) := by
  subst hq hs hd
  unfold owesAny
  iintro ⟨Hf, ⟨%W, Ho⟩⟩ Hk
  iapply (wp_copied c) $$ [Hf Ho]
  · isplitl [Hf]; · iexact Hf
    isplitl [Ho]; · iexact Ho
    rw [MayWait_zero]; iempintro
  iintro ⟨Hs, Hd, Hv, Ho⟩
  iapply Hk
  isplitl [Hs]; · iexact Hs
  isplitl [Hd]; · iexact Hd
  isplitl [Hv]; · iexact Hv
  iexists _; iexact Ho

end Rules

end Cert.PermuteProof

end
-- ==== Proof.Mesh.lean ====
/-
# Mesh: the partner of a device, and what the kernel computes from its entry of the permutation

The mesh is 2 × 2 × 4, device `c` at `(c / 8, c / 4 % 2, c % 4)`. The block of a device goes along the first
axis: to itself where the permutation is `[0, 1]`, to the device eight places on (modulo sixteen) where it is
`[1, 0]`. Both cases are told apart by `sw : Bool`.
-/
module

public import proofs.«01_k».proof.Proof.Gen.KernelIdeal
public import Idealize.ShloMosaic.Lib.Tactic

@[expose] public section

namespace Cert.PermuteProof

open Cert.KernelIdeal
open Idealize.ShloMosaic

/-- The device at the other coordinate of the first axis. -/
def partner (c : Dev nD) : Dev nD := ⟨(c.val + 8) % 16, Nat.mod_lt _ (by decide)⟩

/-- The partner's partner is the device itself. -/
theorem partner_partner (c : Dev nD) : partner (partner c) = c := by revert c; decide

/-- `partner` as a bijection of the devices. -/
def partnerE : Dev nD ≃ Dev nD := ⟨partner, partner, partner_partner, partner_partner⟩

/-- The device whose block `c`'s output ends up with. -/
def source (sw : Bool) (c : Dev nD) : Dev nD := if sw then partner c else c

/-- The permutation: `[1, 0]` where `sw`, `[0, 1]` where not. -/
def perm (sw : Bool) : S2.Idx → BitVec 32 := fun i => BitVec.ofNat 32 (if sw then 1 - (i 0).val else (i 0).val)

/-- Device `c`'s entry of the permutation. -/
def entry (sw : Bool) (c : Dev nD) : BitVec 32 := BitVec.ofNat 32 (if sw then 1 - c.val / 8 else c.val / 8)

/-- The kernel's test for a block that stays, as it computes it. -/
abbrev stays (c : Dev nD) (v : BitVec 32) : BitVec 1 :=
  Scalar.cmpi .ne (Scalar.extui (Scalar.cmpi .eq v (Scalar.remsi (Scalar.divsi (Dev.word c) 8#32) 2#32)) : BitVec 32) 0#32

/-- Where the permutation is `[0, 1]` every device finds that its block stays, -/
theorem stays_kept (c : Dev nD) : stays c (entry false c) = 1#1 := by revert c; decide
/-- where it is `[1, 0]` none does; -/
theorem stays_swapped (c : Dev nD) : ¬ stays c (entry true c) = 1#1 := by revert c; decide
/-- where it is `[0, 1]` none finds that its block leaves, -/
theorem leaves_kept (c : Dev nD) : ¬ k0_cond2 c (entry false c) = 1#1 := by revert c; decide
/-- where it is `[1, 0]` every device does. -/
theorem leaves_swapped (c : Dev nD) : k0_cond2 c (entry true c) = 1#1 := by revert c; decide

/-- The receiver of the barrier's unit, and of each chunk, is the partner. -/
theorem dev1_eq (c : Dev nD) : k0_dev1 c (entry true c) = (partner c).val := by revert c; decide
/-- The same of address 2 of the kernel. -/
theorem dev2_eq (c : Dev nD) : k0_dev2 c (entry true c) = (partner c).val := by revert c; decide
/-- The same of address 3 of the kernel. -/
theorem dev3_eq (c : Dev nD) : k0_dev3 c (entry true c) = (partner c).val := by revert c; decide
/-- The same of address 4 of the kernel. -/
theorem dev4_eq (c : Dev nD) : k0_dev4 c (entry true c) = (partner c).val := by revert c; decide
/-- The same of address 5 of the kernel. -/
theorem dev5_eq (c : Dev nD) : k0_dev5 c (entry true c) = (partner c).val := by revert c; decide
/-- The same of address 6 of the kernel. -/
theorem dev6_eq (c : Dev nD) : k0_dev6 c (entry true c) = (partner c).val := by revert c; decide
/-- The same of address 7 of the kernel. -/
theorem dev7_eq (c : Dev nD) : k0_dev7 c (entry true c) = (partner c).val := by revert c; decide
/-- The same of address 8 of the kernel. -/
theorem dev8_eq (c : Dev nD) : k0_dev8 c (entry true c) = (partner c).val := by revert c; decide
/-- The same of address 9 of the kernel. -/
theorem dev9_eq (c : Dev nD) : k0_dev9 c (entry true c) = (partner c).val := by revert c; decide

/-- Every device the kernel addresses is one of the mesh's. -/
theorem entry_checks (sw : Bool) (c : Dev nD) : k0_chk1 c (entry sw c) := by
  cases sw with
  | false => exact ⟨fun h => absurd h (leaves_kept c), fun h => absurd h (leaves_kept c), fun h => absurd h (leaves_kept c),
      fun h => absurd h (leaves_kept c), fun h => absurd h (leaves_kept c), fun h => absurd h (leaves_kept c),
      fun h => absurd h (leaves_kept c), fun h => absurd h (leaves_kept c), fun h => absurd h (leaves_kept c)⟩
  | true => exact ⟨fun _ => dev1_eq c ▸ (partner c).isLt, fun _ => dev2_eq c ▸ (partner c).isLt, fun _ => dev3_eq c ▸ (partner c).isLt,
      fun _ => dev4_eq c ▸ (partner c).isLt, fun _ => dev5_eq c ▸ (partner c).isLt, fun _ => dev6_eq c ▸ (partner c).isLt,
      fun _ => dev7_eq c ▸ (partner c).isLt, fun _ => dev8_eq c ▸ (partner c).isLt, fun _ => dev9_eq c ▸ (partner c).isLt⟩

/-- What the kernel's scalar load reads of the permutation. -/
theorem perm_entry (sw : Bool) (c : Dev nD) (i : S2.Idx) (h : (i 0).val = c.val / 8) : perm sw i = entry sw c := by
  unfold perm entry; rw [h]

end Cert.PermuteProof

end
-- ==== Proof.Sched.lean ====
/-
# Sched: the exchange between a device and its partner

Where the blocks are swapped, a device signals its partner's barrier once and waits for its own once. A
signal hands the partner the signaller's output buffer, so after its wait a device may write its partner's
output. It then sends its eight chunks, each from the send buffer to the same chunk of the partner's output,
on a semaphore pair of the chunk's own: the departure gives the send buffer's chunk back, the arrival the
output's chunk at the partner's values. Every cell has one round. Where the blocks are kept no cell has any,
and a device uses its semaphores alone.
-/
module

public import proofs.«01_k».proof.Proof.Steps
public import proofs.«01_k».proof.Proof.Mesh

@[expose] public section

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (sw : Bool)

/-! ## The cells -/

abbrev barCell (c : Dev nD) : GSem nD τ sig := ((c : Thread nD τ), .reg barS)
abbrev sendCell (c : Dev nD) (k : Fin 8) : GSem nD τ sig := ((c : Thread nD τ), .dma (sdS k))
abbrev recvCell (c : Dev nD) (k : Fin 8) : GSem nD τ sig := ((c : Thread nD τ), .dma (rvS k))
abbrev loadCell (c : Dev nD) (j : Fin 2) : GSem nD τ sig := ((c : Thread nD τ), .dma (ldS j))

/-- The kernel's own semaphores, in order: the two of the loads, the eight of the departures, the eight of the arrivals. -/
def osem (i : Fin 18) : SemLoc sig := .dma ⟨i.val + 1, Nat.succ_lt_succ i.isLt⟩
/-- The same after the barrier. -/
def csem (i : Fin 19) : SemLoc sig := if i.val = 0 then .reg barS else .dma ⟨i.val, i.isLt⟩
abbrev kcell (ci : Dev nD × Fin 19) : GSem nD τ sig := ((ci.1 : Thread nD τ), csem ci.2)

def ldI (j : Fin 2) : Fin 19 := ⟨j.val + 1, by omega⟩
def sdI (k : Fin 8) : Fin 19 := ⟨k.val + 3, by omega⟩
def rvI (k : Fin 8) : Fin 19 := ⟨k.val + 11, by omega⟩

/-- The semaphores by number: the barrier is the first, -/
theorem csem_bar : csem 0 = .reg barS := by decide
/-- the two of the loads follow, -/
theorem csem_load (j : Fin 2) : csem (ldI j) = .dma (ldS j) := by revert j; decide
/-- then the eight of the departures, -/
theorem csem_send (k : Fin 8) : csem (sdI k) = .dma (sdS k) := by revert k; decide
/-- and the eight of the arrivals. -/
theorem csem_recv (k : Fin 8) : csem (rvI k) = .dma (rvS k) := by revert k; decide
/-- Distinct numbers name distinct semaphores, -/
theorem csem_injective : Function.Injective csem := by decide
/-- and so over all the devices. -/
theorem kcell_injective : Function.Injective kcell := fun a b h => by
  have h1 : a.1 = b.1 := congrArg (fun g : GSem nD τ sig => g.1.1) h
  have h2 : a.2 = b.2 := csem_injective (congrArg (fun g : GSem nD τ sig => g.2) h)
  exact Prod.ext h1 h2

/-- The place of a departure's semaphore among the copies' semaphores, -/
theorem sdS_val (k : Fin 8) : (sdS k).val = k.val + 3 := by revert k; decide
/-- of an arrival's, -/
theorem rvS_val (k : Fin 8) : (rvS k).val = k.val + 11 := by revert k; decide
/-- and of a load's. -/
theorem ldS_val (j : Fin 2) : (ldS j).val = j.val + 1 := by revert j; decide

/-- The chunk a departure's or an arrival's semaphore belongs to. -/
def chunkOf (q : DmaSem sig) : Fin 8 := ⟨(q.val - 3) % 8, Nat.mod_lt _ (by decide)⟩
/-- A departure's semaphore belongs to its chunk, -/
theorem chunkOf_send (k : Fin 8) : chunkOf (sdS k) = k := by revert k; decide
/-- and so does an arrival's. -/
theorem chunkOf_recv (k : Fin 8) : chunkOf (rvS k) = k := by revert k; decide

/-! ## The contents -/

/-- Device `c`'s input block, and chunk `k` of it. -/
def blockOf (c : Dev nD) : S1x2048x1024.Idx → Elt F .bf16 := m ((c : Thread nD τ).loc main_arg0)
def chunkVal (c : Dev nD) (k : Fin 8) : Chunk F := part (blockOf m c) k

/-- Device `c`'s output block, chunk by chunk, at any values. -/
def outs (c : Dev nD) : sProp 𝕄 := bigSep Finset.univ fun k : Fin 8 => iprop(∃ w, owns (c : Thread nD τ) (oC k) fullShare w)

instance outs_storable (c : Dev nD) : BI.Storable (upEmb : UEmb _ 𝕄) (outs (F := F) c) := by unfold outs; infer_instance

/-! ## The schedule -/

/-- The semaphores the exchange uses: the barrier, the departures', the arrivals'. -/
def used : SemLoc sig → Bool | .reg _ => true | .dma q => decide (3 ≤ q.val)

/-- Where the blocks are swapped, round 0 of a device's barrier is its partner's unit, which hands over the partner's output; the
    round of chunk `k`'s arrival is the partner's copy of the chunk, landed; of its departure, the send buffer's chunk back.
    Where they are kept, nothing is exchanged. -/
def exch : Rounds.Schedule (GSem nD τ sig) Unit 𝕄 where
  duties g r := if sw = true ∧ r = 0 ∧ g.1.2 = .tc ∧ used g.2 = true then {()} else ∅
  unitless _ := False
  amount g _ _ := match g.2 with | .reg _ => 1 | .dma _ => N
  payload g _ _ := match g.2 with
    | .reg _ => outs (partner g.1.1)
    | .dma q => if 11 ≤ q.val then owns (g.1.1 : Thread nD τ) (oC (chunkOf q)) fullShare (chunkVal m (partner g.1.1) (chunkOf q))
        else owns (g.1.1 : Thread nD τ) (sC (chunkOf q)) fullShare (chunkVal m g.1.1 (chunkOf q))
  amount_pos g _ _ _ := by
    rcases g with ⟨_, s | q⟩
    · exact Nat.one_pos
    · exact N_pos

instance exch_payload_storable (g : GSem nD τ sig) (r : ℕ) (d : Unit) :
    BI.Storable (upEmb : UEmb _ 𝕄) ((exch (F := F) m sw).payload g r d) := by
  rcases g with ⟨t, s | q⟩
  · exact outs_storable (partner t.1)
  · show BI.Storable upEmb (if 11 ≤ q.val then owns (t.1 : Thread nD τ) (oC (chunkOf q)) fullShare (chunkVal m (partner t.1) (chunkOf q))
        else owns (t.1 : Thread nD τ) (sC (chunkOf q)) fullShare (chunkVal m t.1 (chunkOf q)))
    split <;> infer_instance

section Facts
variable (c : Dev nD) (k : Fin 8)

/-- Where the blocks are swapped the barrier has one duty in round 0, -/
theorem duties_bar : (exch (F := F) m true).duties (barCell c) 0 = {()} := by dsimp only [exch]; exact if_pos ⟨rfl, rfl, rfl, rfl⟩
/-- each departure has one, -/
theorem duties_send : (exch (F := F) m true).duties (sendCell c k) 0 = {()} :=
  if_pos ⟨rfl, rfl, rfl, decide_eq_true (by rw [sdS_val]; omega)⟩
/-- and each arrival has one. -/
theorem duties_recv : (exch (F := F) m true).duties (recvCell c k) 0 = {()} :=
  if_pos ⟨rfl, rfl, rfl, decide_eq_true (by rw [rvS_val]; omega)⟩
/-- The loads have none in any round. -/
theorem duties_load (j : Fin 2) (r : ℕ) : (exch (F := F) m sw).duties (loadCell c j) r = ∅ :=
  if_neg fun h => by have : 3 ≤ (ldS j).val := of_decide_eq_true h.2.2.2; rw [ldS_val] at this; omega
/-- Where the blocks are kept no semaphore has any. -/
theorem duties_kept (g : GSem nD τ sig) (r : ℕ) : (exch (F := F) m false).duties g r = ∅ := by dsimp only [exch]; exact if_neg fun h => Bool.false_ne_true h.1
/-- After round 0 no semaphore has any. -/
theorem duties_later (g : GSem nD τ sig) (r : ℕ) (hr : 1 ≤ r) : (exch (F := F) m sw).duties g r = ∅ := if_neg fun h => by omega

/-- The barrier's round is of one unit, -/
theorem expect_bar : (exch (F := F) m true).expect (barCell c) 0 = 1 := by
  unfold Schedule.expect Schedule.amountOf; rw [duties_bar, Finset.sum_singleton]; rfl
/-- a departure's of one chunk, -/
theorem expect_send : (exch (F := F) m true).expect (sendCell c k) 0 = N := by
  unfold Schedule.expect Schedule.amountOf; rw [duties_send, Finset.sum_singleton]; rfl
/-- and an arrival's of one chunk. -/
theorem expect_recv : (exch (F := F) m true).expect (recvCell c k) 0 = N := by
  unfold Schedule.expect Schedule.amountOf; rw [duties_recv, Finset.sum_singleton]; rfl

/-- The barrier's unit hands over the partner's output buffer, -/
theorem payload_bar : (exch (F := F) m sw).payload (barCell c) 0 () = outs (partner c) := by dsimp only [exch]
/-- a departure the send buffer's chunk, -/
theorem payload_send : (exch (F := F) m sw).payload (sendCell c k) 0 () = owns (c : Thread nD τ) (sC k) fullShare (chunkVal m c k) := by
  show (if 11 ≤ (sdS k).val then _ else owns (c : Thread nD τ) (sC (chunkOf (sdS k))) fullShare (chunkVal m c (chunkOf (sdS k)))) = _
  rw [chunkOf_send, if_neg (by rw [sdS_val]; omega)]
/-- and an arrival the output's chunk at the partner's values. -/
theorem payload_recv : (exch (F := F) m sw).payload (recvCell c k) 0 () = owns (c : Thread nD τ) (oC k) fullShare (chunkVal m (partner c) k) := by
  show (if 11 ≤ (rvS k).val then owns (c : Thread nD τ) (oC (chunkOf (rvS k))) fullShare (chunkVal m (partner c) (chunkOf (rvS k))) else _) = _
  rw [chunkOf_recv, if_pos (by rw [rvS_val]; omega)]

/-- What a wait that takes the whole round receives: of the barrier, -/
theorem rest_bar : bigSep ((exch (F := F) m true).duties (barCell c) 0 \ ∅) (fun d => (exch (F := F) m true).payload (barCell c) 0 d) = outs (partner c) := by
  rw [Finset.sdiff_empty, duties_bar, bigSep_singleton]; rfl
/-- of a departure, -/
theorem rest_send : bigSep ((exch (F := F) m true).duties (sendCell c k) 0 \ ∅) (fun d => (exch (F := F) m true).payload (sendCell c k) 0 d)
    = owns (c : Thread nD τ) (sC k) fullShare (chunkVal m c k) := by
  rw [Finset.sdiff_empty, duties_send, bigSep_singleton, payload_send]
/-- and of an arrival. -/
theorem rest_recv : bigSep ((exch (F := F) m true).duties (recvCell c k) 0 \ ∅) (fun d => (exch (F := F) m true).payload (recvCell c k) 0 d)
    = owns (c : Thread nD τ) (oC k) fullShare (chunkVal m (partner c) k) := by
  rw [Finset.sdiff_empty, duties_recv, bigSep_singleton, payload_recv]

end Facts

/-! ## What each device owes; the levels -/

/-- The arrivals device `c` owes its partner for the chunks of a list, the head's last. -/
def owedL (c : Dev nD) : List (Fin 8) → CellTallies nD τ sig Unit
  | [] => 0
  | k :: l => owedL c l + tallyAt (recvCell (partner c) k) () N

def allChunks : List (Fin 8) := [0, 1, 2, 3, 4, 5, 6, 7]

/-- At launch, where the blocks are swapped: every arrival and the barrier's unit. -/
def owedAt (c : Dev nD) : CellTallies nD τ sig Unit := if sw then owedL c allChunks + tallyAt (barCell (partner c)) () 1 else 0

/-- What sending chunks owes, it owes to the partner's arrivals. -/
theorem owedL_pos (c : Dev nD) (l : List (Fin 8)) {g : GSem nD τ sig} {u : Unit} (h : 0 < owedL c l g u) : ∃ k, g = recvCell (partner c) k := by
  induction l with
  | nil => exact absurd h (Nat.lt_irrefl 0)
  | cons k l ih =>
    unfold owedL at h
    rw [Pi.add_apply, Finsupp.add_apply, tallyAt_apply] at h
    by_cases hg : g = recvCell (partner c) k ∧ u = ()
    · exact ⟨k, hg.1⟩
    · rw [if_neg hg] at h; exact ih (by simpa using h)

/-- What a device owes at the start, it owes to its partner's barrier or to its partner's arrivals. -/
theorem owedAt_pos (c : Dev nD) {g : GSem nD τ sig} {u : Unit} (h : 0 < owedAt sw c g u) :
    g = barCell (partner c) ∨ ∃ k, g = recvCell (partner c) k := by
  unfold owedAt at h
  split at h
  · rw [Pi.add_apply, Finsupp.add_apply, tallyAt_apply] at h
    by_cases hg : g = barCell (partner c) ∧ u = ()
    · exact .inl hg.1
    · rw [if_neg hg] at h; exact .inr (owedL_pos c allChunks (u := u) (by simpa using h))
  · exact absurd h (Nat.lt_irrefl 0)

def L (g : GSem nD τ sig) : Finset Unit := if g.1.2 = .tc then {()} else ∅
/-- Arrivals above the barrier, the barrier above everything else. -/
def lv (g : GSem nD τ sig) (_ : Unit) : ℕ := match g.2 with | .reg _ => 1 | .dma q => if 11 ≤ q.val then 2 else 0

/-- No level is given to other threads' semaphores, -/
theorem L_of_ne (g : GSem nD τ sig) (h : g.1.2 ≠ .tc) : L g = ∅ := if_neg h
/-- one is given to each of the kernel's. -/
theorem L_tc (c : Dev nD) (s : SemLoc sig) : L ((c : Thread nD τ), s) = {()} := if_pos rfl
/-- An arrival is at level 2. -/
theorem lv_recv (c : Dev nD) (k : Fin 8) : lv (recvCell c k) () = 2 := if_pos (by rw [rvS_val]; omega)
/-- The loads and the departures are at level 0. -/
theorem lv_low (c : Dev nD) (q : DmaSem sig) (hq : q.val < 11) : lv ((c : Thread nD τ), .dma q) () = 0 := if_neg (by omega)

/-- A device may wait for one of its semaphores as long as all it owes is owed to kernels' semaphores of higher levels. -/
theorem mayWait_below (c : Dev nD) (s : SemLoc sig) (O : CellTallies nD τ sig Unit)
    (hO : ∀ g u, 0 < O g u → g.1.2 = .tc ∧ lv ((c : Thread nD τ), s) () < lv g u) :
    (levAts L lv : sProp 𝕄) ⊢ MayWait (c : Thread nD τ) s () O := by
  refine MayOwe.of_levAts (L := L) (lev := lv) ?_ (fun g u h => ?_) fun g u h p hp => ?_
  · simp [L_tc]
  · simp [L, (hO g u h).1]
  · obtain rfl := Finset.mem_singleton.mp hp
    exact (hO g u h).2

/-- So, with anything owed of what is owed at launch, it may wait for a load or a departure, -/
theorem mayWait_low (c : Dev nD) (q : DmaSem sig) (hq : q.val < 11) (O : CellTallies nD τ sig Unit)
    (hO : ∀ g u, 0 < O g u → g = barCell (partner c) ∨ ∃ k, g = recvCell (partner c) k) :
    (levAts L lv : sProp 𝕄) ⊢ MayWait (c : Thread nD τ) (.dma q) () O := by
  refine mayWait_below c _ O fun g u h => ?_
  rw [lv_low c q hq]
  obtain rfl | ⟨k, rfl⟩ := hO g u h
  · exact ⟨rfl, Nat.one_pos⟩
  · exact ⟨rfl, by rw [lv_recv]; exact Nat.two_pos⟩

/-- and with arrivals owed, for the barrier. -/
theorem mayWait_bar (c : Dev nD) (l : List (Fin 8)) :
    (levAts L lv : sProp 𝕄) ⊢ MayWait (c : Thread nD τ) (.reg barS) () (owedL c l) := by
  refine mayWait_below c _ _ fun g u h => ?_
  obtain ⟨k, rfl⟩ := owedL_pos c l h
  exact ⟨rfl, by rw [lv_recv]; exact Nat.one_lt_two⟩

/-! ## The shared records: every cell's invariant, and that every cell has reached round 0 -/

/-- What everyone may know of one cell. -/
def record (κ : ℕ) (g : GSem nD τ sig) : sProp 𝕄 := iprop(cellInv ER (exch m sw) κ g ∗ reached ER g 0)

instance record_persistent (κ : ℕ) (g : GSem nD τ sig) : BI.Persistent (record m sw κ g) := by unfold record; infer_instance

/-- The records of all the cells. -/
def records (K : Dev nD × Fin 19 → ℕ) : sProp 𝕄 := bigSep Finset.univ fun ci => record m sw (K ci) (kcell ci)

instance records_persistent (K : Dev nD × Fin 19 → ℕ) : BI.Persistent (records m sw K) := by unfold records; infer_instance

/-- They are made of all the invariants and all the marks. -/
theorem records_of (K : Dev nD × Fin 19 → ℕ) :
    iprop((bigSep Finset.univ fun ci : Dev nD × Fin 19 => cellInv ER (exch m sw) (K ci) (kcell ci))
      ∗ bigSep Finset.univ fun ci : Dev nD × Fin 19 => reached ER (kcell ci) 0) ⊢ records m sw K := by
  unfold records record
  rw [bigSep_sep']

/-- One cell's record, out of all of them, -/
theorem record_at (K : Dev nD × Fin 19 → ℕ) (c : Dev nD) (i : Fin 19) {s : SemLoc sig} (h : csem i = s) :
    records m sw K ⊢ record m sw (K (c, i)) ((c : Thread nD τ), s) :=
  h ▸ bigSep_elim (Φ := fun ci => record m sw (K ci) (kcell ci)) (Finset.mem_univ (c, i))

/-- its invariant, -/
theorem inv_at (K : Dev nD × Fin 19 → ℕ) (c : Dev nD) (i : Fin 19) {s : SemLoc sig} (h : csem i = s) :
    records m sw K ⊢ cellInv ER (exch m sw) (K (c, i)) ((c : Thread nD τ), s) :=
  (record_at m sw K c i h).trans (by unfold record; iintro ⟨H, -⟩; iexact H)

/-- and that it has reached round 0. -/
theorem reached_at (K : Dev nD × Fin 19 → ℕ) (c : Dev nD) (i : Fin 19) {s : SemLoc sig} (h : csem i = s) :
    records m sw K ⊢ reached ER ((c : Thread nD τ), s) 0 :=
  (record_at m sw K c i h).trans (by unfold record; iintro ⟨-, H⟩; iexact H)

/-- A cell with no round to come gives its semaphore back, at zero. -/
theorem close_at (K : Dev nD × Fin 19 → ℕ) (c : Dev nD) (i : Fin 19) {s : SemLoc sig} (h : csem i = s) (R : ℕ)
    (hR : ∀ r, R ≤ r → (exch (F := F) m sw).duties ((c : Thread nD τ), s) r = ∅) :
    iprop(records m sw K ∗ atPos ER ((c : Thread nD τ), s) R ∅ 0) ⊢ iprop(|={Set.univ}=> semVal ((c : Thread nD τ), s) 0) := by
  iintro ⟨#H, Hat⟩
  iapply (Rounds.cell_close ER (exch m sw) (Set.mem_univ (K (c, i))) (fun h => h) (R := R) hR) $$ [Hat]
  isplitr
  · iapply (inv_at m sw K c i h); iexact H
  · iexact Hat

end Cert.PermuteProof

end
-- ==== Proof.Exchange.lean ====
/-
# Exchange: one rule per operation between a device and its partner

The signal, the wait for the partner's, a chunk's sending, and the waits for its departure and arrival, each
stated over the shared records and what the device holds for it.
-/
module

public import proofs.«01_k».proof.Proof.Sched

@[expose] public section

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 19 → ℕ) {α : Type} (c : Dev nD)

/-- The signal to the partner's barrier: it takes the device's own output along. -/
theorem wp_notify {Q : α → sProp 𝕄} {n : Dev nD} (hn : n = partner c) {s : Sem sig} (hs : s = barS) {z : ℤ} (hz : z = ((1 : ℕ) : ℤ))
    {kk : PUnit → Prog (TpuEff nD τ sig (Elt F) Λ₀ .tc) α} {O : CellTallies nD τ sig Unit} :
    iprop(records m true K ∗ dutyTok ER (barCell (partner c)) 0 () ∗ outs c ∗ owesAny c (O + tallyAt (barCell (partner c)) () 1))
      ⊢ iprop((owesAny c O -∗ run c (kk ⟨⟩) Q) -∗ run c (.op (.semSignal ((n, .tc) : Thread nD τ) s z) kk) Q) := by
  subst hn hs hz
  unfold owesAny
  iintro ⟨#HR, Ht, Hp, ⟨%W, Ho⟩⟩ Hk
  iapply (Rounds.wp_signal 𝒱₀ ER (exch m true) (c : Thread nD τ) none (dst := (partner c : Thread nD τ)) (κ := K (partner c, 0))
      (r := 0) (d := ()) (k' := 1) (by rw [duties_bar]; exact Finset.mem_singleton_self _) rfl () O rfl (W := W)) $$ [Ht Hp Ho]
  · isplitr; · iapply (inv_at m true K (partner c) 0 csem_bar); iexact HR
    isplitl [Ho]; · iexact Ho
    isplitl [Ht]; · iexact Ht
    isplitl [Hp]
    · rw [payload_bar, partner_partner]; iexact Hp
    iapply (reached_at m true K (partner c) 0 csem_bar); iexact HR
  iintro Ho
  iapply Hk
  iexists W; iexact Ho

/-- The wait for the own barrier: the partner's output comes with it, and the barrier's semaphore is done with. -/
theorem wp_await {Q : α → sProp 𝕄} {s : Sem sig} (hs : s = barS) {z : ℤ} (hz : z = ((1 : ℕ) : ℤ))
    {kk : PUnit → Prog (TpuEff nD τ sig (Elt F) Λ₀ .tc) α} (l : List (Fin 8)) :
    iprop(records m true K ∗ levAts L lv ∗ cred (tallyAt (barCell c) () 1) ∗ atPos ER (barCell c) 0 ∅ 0 ∗ owesAny c (owedL c l))
      ⊢ iprop(((outs (partner c) ∗ semVal (barCell c) 0 ∗ owesAny c (owedL c l)) -∗ run c (kk ⟨⟩) Q)
          -∗ run c (.op (.semWait s z) kk) Q) := by
  subst hs hz
  unfold owesAny
  iintro ⟨#HR, #Hlev, Hc, Hat, ⟨%W, Ho⟩⟩ Hk
  iapply (Rounds.wp_wait_rest_token 𝒱₀ ER (exch m true) (c : Thread nD τ) none (κ := K (c, 0))
      (wpE_semWait_eq 𝒱₀ (c : Thread nD τ) none Set.univ) (Set.mem_univ _) () (O := owedL c l) (W := W) (R := 0) (m := 0) (T := ∅)
      (by rw [expect_bar])) $$ [Hc Hat Ho]
  · isplitr; · iapply (inv_at m true K c 0 csem_bar); iexact HR
    isplitl [Hc]; · iexact Hc
    isplitl [Ho]; · iexact Ho
    isplitr; · iapply (mayWait_bar c l); iexact Hlev
    iexact Hat
  iintro ⟨Ho, Hat, -, Hp⟩
  ihave Hp := (Entails.of_eq (rest_bar m c)) $$ Hp
  imod (close_at m true K c 0 csem_bar (0 + 1) (fun r hr => duties_later m true _ r hr)) $$ [Hat] with Hz
  · isplitr; · iexact HR
    iexact Hat
  iapply Hk
  isplitl [Hp]; · iexact Hp
  isplitl [Hz]; · iexact Hz
  iexists _; iexact Ho

/-- Sending chunk `k` to the partner's output. -/
theorem wp_send {Q : α → sProp 𝕄} (k : Fin 8) (l : List (Fin 8)) {n : Dev nD} (hn : n = partner c) {q₁ q₂ : DmaSem sig}
    {src : Memref sig .tc .vmem S1x256x1024 .bf16} {dst : Memref sig .tc .hbm S1x256x1024 .bf16}
    (h₁ : q₁ = sdS k) (h₂ : q₂ = rvS k) (hs : src = sC k) (hd : dst = oC k)
    {hsc : dst.view.ref.isScScratch = false} {hsrc : src.view.WordExact} {hdst : dst.view.WordExact}
    {hsem : DmaTarget.Typed .vmem (.dma q₂) (.remote (Dev.tc n : Thread nD τ) dst (.dma q₁) hsc)}
    {kk : PUnit → Prog (TpuEff nD τ sig (Elt F) Λ₀ .tc) α} :
    iprop(records m true K ∗ owns (c : Thread nD τ) (sC k) fullShare (chunkVal m c k)
        ∗ (∃ w, owns (partner c : Thread nD τ) (oC k) fullShare w) ∗ dutyTok ER (sendCell c k) 0 () ∗ dutyTok ER (recvCell (partner c) k) 0 ()
        ∗ owesAny c (owedL c (k :: l)))
      ⊢ iprop(((cred (tallyAt (sendCell c k) () N) ∗ owesAny c (owedL c l)) -∗ run c (kk ⟨⟩) Q)
          -∗ run c (.op (.enqueueDma src (.remote (Dev.tc n : Thread nD τ) dst (.dma q₁) hsc) (.dma q₂) hsrc hdst hsem) kk) Q) := by
  subst hn h₁ h₂ hs hd
  unfold owesAny owns
  iintro ⟨#HR, ⟨%fs, %hfs, Hs⟩, ⟨%w, %fd, -, Hd⟩, Ht₁, Ht₂, ⟨%W, Ho⟩⟩ Hk
  iapply (Rounds.wp_send_pointsTo 𝒱₀ ER (exch m true) (c : Thread nD τ) none (κ₁ := K (c, sdI k)) (κ₂ := K (partner c, rvI k))
      (r₁ := 0) (r₂ := 0) (d₁ := ()) (d₂ := ()) (fs := fs) (fd := fd)
      (by rw [duties_send]; exact Finset.mem_singleton_self _) (by rw [duties_recv]; exact Finset.mem_singleton_self _)
      () () N rfl rfl rfl (owedL c l) rfl (W := W)
      (by rw [payload_send]; unfold owns; iintro H; iexists fs; isplitr; · ipureintro; exact hfs
          iexact H)
      (by rw [payload_recv]; unfold owns; iintro H; iexists _; isplitr
          swap; · iexact H
          ipureintro; rw [View.read_write_univ, hfs, partner_partner])) $$ [Hs Hd Ht₁ Ht₂ Ho]
  · isplitr; · iapply (inv_at m true K c (sdI k) (csem_send k)); iexact HR
    isplitr; · iapply (inv_at m true K (partner c) (rvI k) (csem_recv k)); iexact HR
    isplitl [Hs]; · iexact Hs
    isplitl [Hd]; · iexact Hd
    isplitl [Ho]; · iexact Ho
    isplitl [Ht₁]; · iexact Ht₁
    isplitr; · iapply (reached_at m true K c (sdI k) (csem_send k)); iexact HR
    isplitl [Ht₂]; · iexact Ht₂
    iapply (reached_at m true K (partner c) (rvI k) (csem_recv k)); iexact HR
  iintro ⟨Hc, Ho⟩
  iapply Hk
  isplitl [Hc]; · iexact Hc
  iexists W; iexact Ho

/-- The wait for a chunk's copy at one of its two ends, `i`: the end's payload `P` is the device's, its semaphore done with. -/
theorem wp_ended {Q : α → sProp 𝕄} (i : Fin 19) {q : DmaSem sig} (hi : csem i = .dma q) {P : sProp 𝕄}
    (he : (exch (F := F) m true).expect ((c : Thread nD τ), .dma q) 0 = N)
    (hP : bigSep ((exch (F := F) m true).duties ((c : Thread nD τ), .dma q) 0 \ ∅) (fun d => (exch (F := F) m true).payload ((c : Thread nD τ), .dma q) 0 d) = P)
    {sp sp' : Space} {s s' : Shape} {e e' : EltTy} {src : Memref sig .tc sp s e} {dst : Memref sig .tc sp' s' e'} (hN : dst.view.dmaCredit = N)
    {hsrc : src.view.WordExact} {hdst : dst.view.WordExact} {kk : PUnit → Prog (TpuEff nD τ sig (Elt F) Λ₀ .tc) α} :
    iprop(records m true K ∗ cred (tallyAt ((c : Thread nD τ), .dma q) () N) ∗ atPos ER ((c : Thread nD τ), .dma q) 0 ∅ 0 ∗ owesAny c 0)
      ⊢ iprop(((P ∗ semVal ((c : Thread nD τ), .dma q) 0 ∗ owesAny c 0) -∗ run c (kk ⟨⟩) Q)
          -∗ run c (.op (.waitDma2 q src dst hsrc hdst) kk) Q) := by
  unfold owesAny
  iintro ⟨#HR, Hc, Hat, ⟨%W, Ho⟩⟩ Hk
  iapply (Rounds.wp_wait_rest_token 𝒱₀ ER (exch m true) (c : Thread nD τ) none (κ := K (c, i))
      (wpE_waitDma2_eq 𝒱₀ (c : Thread nD τ) none Set.univ) (Set.mem_univ _) () (O := 0) (W := W) (R := 0) (m := 0) (T := ∅)
      (by rw [Nat.zero_add, he]; exact hN)) $$ [Hc Hat Ho]
  · isplitr; · iapply (inv_at m true K c i hi); iexact HR
    isplitl [Hc]; · rw [hN]; iexact Hc
    isplitl [Ho]; · iexact Ho
    isplitr; · rw [MayWait_zero]; iempintro
    iexact Hat
  iintro ⟨Ho, Hat, -, Hp⟩
  ihave Hp := (Entails.of_eq hP) $$ Hp
  imod (close_at m true K c i hi (0 + 1) (fun r hr => duties_later m true _ r hr)) $$ [Hat] with Hz
  · isplitr; · iexact HR
    iexact Hat
  iapply Hk
  isplitl [Hp]; · iexact Hp
  isplitl [Hz]; · iexact Hz
  iexists _; iexact Ho

/-- The wait for chunk `k`'s departure: the send buffer's chunk is back. -/
theorem wp_sent {Q : α → sProp 𝕄} (k : Fin 8) {q : DmaSem sig} {src : Memref sig .tc .hbm S1x256x1024 .bf16}
    {dst : Memref sig .tc .vmem S1x256x1024 .bf16} (hq : q = sdS k) (hd : dst = sC k) {hsrc : src.view.WordExact} {hdst : dst.view.WordExact}
    {kk : PUnit → Prog (TpuEff nD τ sig (Elt F) Λ₀ .tc) α} :
    iprop(records m true K ∗ cred (tallyAt (sendCell c k) () N) ∗ atPos ER (sendCell c k) 0 ∅ 0 ∗ owesAny c 0)
      ⊢ iprop(((owns (c : Thread nD τ) (sC k) fullShare (chunkVal m c k) ∗ semVal (sendCell c k) 0 ∗ owesAny c 0) -∗ run c (kk ⟨⟩) Q)
          -∗ run c (.op (.waitDma2 q src dst hsrc hdst) kk) Q) := by
  subst hq hd
  exact wp_ended m K c (sdI k) (csem_send k) (expect_send m c k) (rest_send m c k) (src := src) (dst := sC k) rfl

/-- The wait for chunk `k`'s arrival: the output's chunk holds the partner's. -/
theorem wp_received {Q : α → sProp 𝕄} (k : Fin 8) {q : DmaSem sig} {src : Memref sig .tc .vmem S1x256x1024 .bf16}
    {dst : Memref sig .tc .hbm S1x256x1024 .bf16} (hq : q = rvS k) (hd : dst = oC k) {hsrc : src.view.WordExact} {hdst : dst.view.WordExact}
    {kk : PUnit → Prog (TpuEff nD τ sig (Elt F) Λ₀ .tc) α} :
    iprop(records m true K ∗ cred (tallyAt (recvCell c k) () N) ∗ atPos ER (recvCell c k) 0 ∅ 0 ∗ owesAny c 0)
      ⊢ iprop(((owns (c : Thread nD τ) (oC k) fullShare (chunkVal m (partner c) k) ∗ semVal (recvCell c k) 0 ∗ owesAny c 0) -∗ run c (kk ⟨⟩) Q)
          -∗ run c (.op (.waitDma2 q src dst hsrc hdst) kk) Q) := by
  subst hq hd
  exact wp_ended m K c (rvI k) (csem_recv k) (expect_recv m c k) (rest_recv m c k) (src := src) (dst := oC k) rfl

/-- Staging a chunk with arrivals still owed: a read's semaphore lies below every arrival's. -/
theorem wp_stage_owing {Q : α → sProp 𝕄} (l : List (Fin 8)) (k : Fin 8) (j : Fin 2) {q : DmaSem sig} {src : Memref sig .tc .hbm S1x256x1024 .bf16}
    {dst : Memref sig .tc .vmem S1x256x1024 .bf16} {r₃ : Rect S2x1x256x1024} {r₄ : Rect S1x2048x1024}
    (hq : q = ldS j) (hs : src = aC k) (hd : dst = lS j) (h₃ : r₃ = slotR j) (h₄ : r₄ = chunkR k)
    {hsrc : src.view.WordExact} {hdst : dst.view.WordExact} {hl₃ : (Memref.whole cc0_scratch0 : Memref sig .tc .vmem _ _).view.LoadsAt r₃.toLoadRect}
    {hl₄ : (Memref.whole cc0_scratch1 : Memref sig .tc .vmem _ _).view.LoadsAt r₄.toLoadRect}
    {p : (r₃.shape.Idx → Elt F .bf16) → r₄.shape.Idx → Elt F .bf16}
    (hp : ∀ (e₃ : r₃ = slotR j) (e₄ : r₄ = chunkR k) (X : Chunk F), p (e₃ ▸ unsq X) = (e₄ ▸ X : r₄.shape.Idx → Elt F .bf16))
    {hx : ((Memref.whole cc0_scratch1 : Memref sig .tc .vmem _ _).access r₄).Stores Finset.univ}
    {hm : (Finset.univ : Finset r₄.shape.Idx) = Finset.univ ∨ ∀ a, r₄.stride a = 1}
    {kk : PUnit → Prog (TpuEff nD τ sig (Elt F) Λ₀ .tc) α} {X : Chunk F} :
    iprop(levAts L lv ∗ loading c k j X ∗ (∃ w, owns (c : Thread nD τ) (sC k) fullShare w) ∗ owesAny c (owedL c l))
      ⊢ iprop(((slotFree c j ∗ owns (c : Thread nD τ) (aC k) fullShare X ∗ owns (c : Thread nD τ) (sC k) fullShare X ∗ owesAny c (owedL c l))
            -∗ run c (kk ⟨⟩) Q)
          -∗ run c (.op (.waitDma2 q src dst hsrc hdst) fun _ => .op (.load (Memref.whole cc0_scratch0) r₃.toLoadRect hl₃) fun v =>
            .op (.load (Memref.whole cc0_scratch1) r₄.toLoadRect hl₄) fun _ => .op (.store (Memref.whole cc0_scratch1) r₄ (p v) Finset.univ hx hm) kk) Q) := by
  iintro ⟨HL, Hf, Hs, HO⟩ Hk
  ihave Hm := (mayWait_low c (ldS j) (by rw [ldS_val]; omega) (owedL c l) fun g u h => Or.inr (owedL_pos c l h)) $$ HL
  iapply (wp_stage c k j hq hs hd h₃ h₄ hp) $$ [Hf Hs HO Hm]
  · isplitl [Hf]; · iexact Hf
    isplitl [Hs]; · iexact Hs
    isplitl [HO] <;> iassumption
  iexact Hk

end Cert.PermuteProof

end
-- ==== Proof.Body.lean ====
/-
# Body: what both runs of the kernel start from and end with, and its first operations
-/
module

public import proofs.«01_k».proof.Proof.Exchange

@[expose] public section

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- A conjunction over eight indices, written out. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]; rfl

/-- The staged permutation. -/
def permAt (sw : Bool) : sProp 𝕄 := ((c : Thread nD τ).loc cc0_stg0_0 ↦{fullShare} perm sw)

/-- The device's own buffers: the staging slots free, the input's chunks, the send buffer's at any values. -/
def held : sProp 𝕄 :=
  iprop(slotFree c 0 ∗ slotFree c 1 ∗ (bigSep Finset.univ fun k : Fin 8 => owns (c : Thread nD τ) (aC k) fullShare (chunkVal m c k))
    ∗ bigSep Finset.univ fun k : Fin 8 => iprop(∃ w, owns (c : Thread nD τ) (sC k) fullShare w))

/-- The output's chunks, holding device `d`'s input. -/
def filled (d : Dev nD) : sProp 𝕄 := bigSep Finset.univ fun k : Fin 8 => owns (c : Thread nD τ) (oC k) fullShare (chunkVal m d k)

/-- The body on its memrefs. -/
abbrev body : Prog (TpuEff nD τ sig (Elt F) Λ₀ .tc) PUnit :=
  cc0_body (Memref.whole cc0_stg0_0) (Memref.isWhole_whole _) (Memref.whole main_arg0) (Memref.isWhole_whole _) (Memref.whole main_v1) (Memref.isWhole_whole _)
    (Memref.whole cc0_scratch0) (Memref.isWhole_whole _) (Memref.whole cc0_scratch1) (Memref.isWhole_whole _) cc0_scratch2 cc0_scratch3 cc0_scratch4

/-- Before any memory operation the kernel reads its entry of the permutation. -/
theorem wp_entry {α : Type} {Q : α → sProp 𝕄} (sw : Bool)
    {hl : (Memref.whole cc0_stg0_0 : Memref sig .tc .smem S2 .i32).view.LoadsAt (Rect.unit (s := S2) (k0_off1 c) S1.size (k0_off1_inb c)).toLoadRect}
    {kk : ((Rect.unit (s := S2) (k0_off1 c) S1.size (k0_off1_inb c)).toLoadRect.shape.Idx → Elt F .i32) → Prog (TpuEff nD τ sig (Elt F) Λ₀ .tc) α} :
    permAt c sw ⊢ iprop((permAt c sw -∗ run c (kk fun _ => entry sw c) Q)
      -∗ run c (.op (.load (Memref.whole cc0_stg0_0) (Rect.unit (s := S2) (k0_off1 c) S1.size (k0_off1_inb c)).toLoadRect hl) kk) Q) := by
  have hv : ((Memref.whole cc0_stg0_0 : Memref sig .tc .smem S2 .i32).access (Rect.unit (s := S2) (k0_off1 c) S1.size (k0_off1_inb c))).read (Elt F) (perm sw)
      = fun _ => entry sw c := by
    funext x
    refine perm_entry sw c _ ?_
    have hx := (x 0).isLt
    simp [S1] at hx
    show k0_off1 c 0 + 1 * (x 0).val = c.val / 8
    have hk : k0_off1 c 0 = c.val / 8 := congrFun (k0_off1_eq c) 0
    omega
  unfold permAt
  iintro Hp Hk
  iapply (wp_load_rect 𝒱₀ (c : Thread nD τ) none Set.univ (m := Memref.whole cc0_stg0_0) (r := Rect.unit (s := S2) (k0_off1 c) S1.size (k0_off1_inb c))
      (S := Finset.univ) (Finset.subset_univ _)) $$ Hp
  iintro Hp
  rw [hv]
  iapply Hk $$ Hp
end Cert.PermuteProof

end
-- ==== Proof.Pieces.lean ====
/-
# Pieces: the kernel's whole buffers and the pieces its runs work on
-/
module

public import proofs.«01_k».proof.Proof.Body

@[expose] public section

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Whole buffers and their pieces -/

/-- The eight chunks of a memref, each at some values, are the memref at some values. -/
theorem join_any {sp : Space} (b : Memref sig .tc sp S1x2048x1024 .bf16) :
    (bigSep Finset.univ fun k : Fin 8 => iprop(∃ w, owns (c : Thread nD τ) (b.slice (chunkR k) (fun _ => rfl)) fullShare w) : sProp 𝕄)
      ⊢ iprop(∃ X, owns (c : Thread nD τ) b fullShare X) := by
  haveI : Nonempty (Chunk F) := ⟨fun _ => Classical.choice ((inferInstance : ∀ e, Nonempty (Elt F e)) .bf16)⟩
  refine BIBase.Entails.trans (bigSep_exists_pi Finset.univ fun (k : Fin 8) (w : Chunk F) => owns (c : Thread nD τ) (b.slice (chunkR k) (fun _ => rfl)) fullShare w) ?_
  iintro ⟨%W, H⟩
  iexists Rect.glue chunkR chunkR_cover W
  iapply (join_chunks c b (Rect.glue chunkR chunkR_cover W))
  have h (k : Fin 8) : part (Rect.glue chunkR chunkR_cover W) k = W k := funext fun y => Rect.glue_emb chunkR chunkR_cover chunkR_disjoint W k y
  simp only [h]
  iexact H

/-- A memref at some values is its eight chunks, each at some values. -/
theorem split_any {sp : Space} (b : Memref sig .tc sp S1x2048x1024 .bf16) :
    (iprop(∃ X, owns (c : Thread nD τ) b fullShare X) : sProp 𝕄)
      ⊢ bigSep Finset.univ fun k : Fin 8 => iprop(∃ w, owns (c : Thread nD τ) (b.slice (chunkR k) (fun _ => rfl)) fullShare w) := by
  iintro ⟨%X, H⟩
  iapply (show (bigSep Finset.univ fun k : Fin 8 => (owns (c : Thread nD τ) (b.slice (chunkR k) (fun _ => rfl)) fullShare (part X k) : sProp 𝕄))
      ⊢ bigSep Finset.univ fun k : Fin 8 => iprop(∃ w, owns (c : Thread nD τ) (b.slice (chunkR k) (fun _ => rfl)) fullShare w) from
    bigSep_mono fun k _ => (show (owns (c : Thread nD τ) (b.slice (chunkR k) (fun _ => rfl)) fullShare (part X k) : sProp 𝕄)
      ⊢ iprop(∃ w, owns (c : Thread nD τ) (b.slice (chunkR k) (fun _ => rfl)) fullShare w) by iintro H; iexists _; iexact H))
  iapply (split_chunks c b X); iexact H

/-- A conjunction over two indices, written out. -/
theorem bigSep_two (Φ : Fin 2 → sProp 𝕄) : bigSep Finset.univ Φ = iprop(Φ 0 ∗ Φ 1) := by
  rw [bigSep_univ_eq_bigSepL [0, 1] (by decide) (by decide)]
  simp only [bigSepL_cons_cons, bigSepL_singleton]; rfl

/-- The staging buffer is its two slots. -/
theorem open_slots : (iprop(∃ f : Buf (Elt F) ((c : Thread nD τ).loc cc0_scratch0), (c : Thread nD τ).loc cc0_scratch0 ↦{fullShare} f) : sProp 𝕄)
    ⊢ iprop((∃ w, owns (c : Thread nD τ) (lS 0) fullShare w) ∗ ∃ w, owns (c : Thread nD τ) (lS 1) fullShare w) := by
  iintro ⟨%f, H⟩
  ihave H := (Entails.of_eq (owns_whole (c : Thread nD τ) cc0_scratch0 fullShare f).symm) $$ H
  ihave H := (owns_rects (c : Thread nD τ) (Memref.whole cc0_scratch0) fullShare slotR (fun _ _ => rfl) slotR_disjoint slotR_cover f) $$ H
  ihave H := (Entails.of_eq (bigSep_two _)) $$ H
  icases H with ⟨H0, H1⟩
  have h (j : Fin 2) : (owns (c : Thread nD τ) (lS4 j) fullShare (fun i => f ((slotR j).emb i)) : sProp 𝕄)
      ⊢ iprop(∃ w, owns (c : Thread nD τ) (lS j) fullShare w) := by
    rw [owns_squeeze c (lS4 j) squeezes_S1x1x256x1024_S1x256x1024]
    iintro H; iexists _; iexact H
  isplitl [H0]
  · iapply (h 0); iexact H0
  · iapply (h 1); iexact H1

/-- The two slots of the load buffer make up the load buffer. -/
theorem close_slots : (iprop((∃ w, owns (c : Thread nD τ) (lS 0) fullShare w) ∗ ∃ w, owns (c : Thread nD τ) (lS 1) fullShare w) : sProp 𝕄)
    ⊢ iprop(∃ f : Buf (Elt F) ((c : Thread nD τ).loc cc0_scratch0), (c : Thread nD τ).loc cc0_scratch0 ↦{fullShare} f) := by
  iintro ⟨⟨%w0, H0⟩, ⟨%w1, H1⟩⟩
  have hW : ∃ W : Fin 2 → Chunk F, W 0 = w0 ∧ W 1 = w1 := ⟨fun j => if j = 0 then w0 else w1, rfl, rfl⟩
  obtain ⟨W, rfl, rfl⟩ := hW
  ihave H0 := (Entails.of_eq (owns_slot c 0 (W 0))) $$ H0
  ihave H1 := (Entails.of_eq (owns_slot c 1 (W 1))) $$ H1
  iexists Rect.glue slotR slotR_cover fun j => unsq (W j)
  iapply (Entails.of_eq (owns_whole (c : Thread nD τ) cc0_scratch0 fullShare (Rect.glue slotR slotR_cover fun j => unsq (W j))))
  iapply (owns_of_rects (c : Thread nD τ) (Memref.whole cc0_scratch0) fullShare slotR (fun _ _ => rfl) slotR_disjoint slotR_cover
    (Rect.glue slotR slotR_cover fun j => unsq (W j)))
  have h (j : Fin 2) : (fun i => Rect.glue slotR slotR_cover (fun j => unsq (W j)) ((slotR j).emb i)) = unsq (W j) :=
    funext fun y => Rect.glue_emb slotR slotR_cover slotR_disjoint (fun j => unsq (W j)) j y
  simp only [h]
  iapply (Entails.of_eq (bigSep_two _).symm)
  isplitl [H0] <;> iassumption

/-- Separating conjunction is associative, as an equation. -/
theorem sep_regroup (P Q R : sProp 𝕄) : iprop((P ∗ Q) ∗ R) = iprop(P ∗ Q ∗ R) := equiv_iff.mp ⟨BI.sep_assoc, BI.sep_assoc'⟩

/-- A family over the nineteen semaphores: the barrier's, the reads', the departures', the arrivals'. -/
theorem bigSep_sems (Φ : SemLoc sig → sProp 𝕄) : (bigSep Finset.univ fun i : Fin 19 => Φ (csem i))
    = iprop(Φ (.reg barS) ∗ (Φ (.dma (ldS 0)) ∗ Φ (.dma (ldS 1))) ∗ (bigSep Finset.univ fun k : Fin 8 => Φ (.dma (sdS k)))
        ∗ bigSep Finset.univ fun k : Fin 8 => Φ (.dma (rvS k))) := by
  rw [bigSep_eight, bigSep_eight, bigSep_univ_eq_bigSepL [0, 1, 2, 3, 4, 5, 6, 7, 8, 9, 10, 11, 12, 13, 14, 15, 16, 17, 18] (by decide) (by decide)]
  simp only [bigSepL_cons_cons, bigSepL_singleton]
  refine Eq.trans (b := iprop(Φ (csem 0) ∗ Φ (csem 1) ∗ Φ (csem 2) ∗ Φ (csem 3) ∗ Φ (csem 4) ∗ Φ (csem 5) ∗ Φ (csem 6) ∗ Φ (csem 7) ∗ Φ (csem 8) ∗ Φ (csem 9) ∗ Φ (csem 10) ∗ Φ (csem 11) ∗ Φ (csem 12) ∗ Φ (csem 13) ∗ Φ (csem 14) ∗ Φ (csem 15) ∗ Φ (csem 16) ∗ Φ (csem 17) ∗ Φ (csem 18))) rfl ?_
  simp only [sep_regroup]
  rfl

end Cert.PermuteProof

end
-- ==== Proof.Kept.lean ====
/-
# Kept: the kernel's run where the blocks stay
-/
module

public import proofs.«01_k».proof.Proof.Body
public import Idealize.ShloMosaic.Lib.SparseCore.ProtocolKit

@[expose] public section

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

set_option maxHeartbeats 2000000 in
/-- Where the permutation keeps the blocks, the kernel copies the device's own block to its output. -/
theorem run_kept (Q : PUnit → sProp 𝕄) :
    iprop((permAt c false ∗ held m c ∗ outs c ∗ (bigSep Finset.univ fun k : Fin 8 => semVal (sendCell c k) 0) ∗ owesAny c 0)
        ∗ ((permAt c false ∗ held m c ∗ filled m c c ∗ (bigSep Finset.univ fun k : Fin 8 => semVal (sendCell c k) 0) ∗ owesAny c 0) -∗ Q ⟨⟩))
      ⊢ run c body Q := by
  unfold body
  simp only [cc0_body_eq_skeleton]; unfold cc0_body_skel
  simp only [smemLoad, smemLoadElt, Prog.lift, Prog.bind_op, Prog.bind_ret, Prog.pure_eq_ret, wp_deviceId]
  unfold held outs filled
  simp only [bigSep_eight]
  iintro ⟨⟨Hpi, ⟨Hl0, Hl1, ⟨Ha0, Ha1, Ha2, Ha3, Ha4, Ha5, Ha6, Ha7⟩, ⟨Hs0, Hs1, Hs2, Hs3, Hs4, Hs5, Hs6, Hs7⟩⟩,
    ⟨Ho0, Ho1, Ho2, Ho3, Ho4, Ho5, Ho6, Ho7⟩, ⟨Hv0, Hv1, Hv2, Hv3, Hv4, Hv5, Hv6, Hv7⟩, HO⟩, Hk⟩
  iapply (wp_entry c false) $$ Hpi; iintro Hpi
  iapply (wp_assume 𝒱₀ (c : Thread nD τ) none Set.univ (entry_checks false c))
  rw [if_pos (stays_kept c)]
  rw [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret]
  iapply (wp_chunk c 0 0 rfl rfl rfl rfl rfl rfl rfl rfl rfl rfl rfl (fun _ _ X => relayout X) (X := chunkVal m c 0)) $$ [Hl0 Ha0 Hs0 Ho0 Hv0 HO]
  · iclose
  iintro ⟨Hl0, Ha0, Hw0, HO⟩
  iapply (wp_chunk c 1 1 rfl rfl rfl rfl rfl rfl rfl rfl rfl rfl rfl (fun _ _ X => relayout X) (X := chunkVal m c 1)) $$ [Hl1 Ha1 Hs1 Ho1 Hv1 HO]
  · iclose
  iintro ⟨Hl1, Ha1, Hw1, HO⟩
  iapply (wp_chunk c 2 0 rfl rfl rfl rfl rfl rfl rfl rfl rfl rfl rfl (fun _ _ X => relayout X) (X := chunkVal m c 2)) $$ [Hl0 Ha2 Hs2 Ho2 Hv2 HO]
  · iclose
  iintro ⟨Hl0, Ha2, Hw2, HO⟩
  iapply (wp_chunk c 3 1 rfl rfl rfl rfl rfl rfl rfl rfl rfl rfl rfl (fun _ _ X => relayout X) (X := chunkVal m c 3)) $$ [Hl1 Ha3 Hs3 Ho3 Hv3 HO]
  · iclose
  iintro ⟨Hl1, Ha3, Hw3, HO⟩
  iapply (wp_chunk c 4 0 rfl rfl rfl rfl rfl rfl rfl rfl rfl rfl rfl (fun _ _ X => relayout X) (X := chunkVal m c 4)) $$ [Hl0 Ha4 Hs4 Ho4 Hv4 HO]
  · iclose
  iintro ⟨Hl0, Ha4, Hw4, HO⟩
  iapply (wp_chunk c 5 1 rfl rfl rfl rfl rfl rfl rfl rfl rfl rfl rfl (fun _ _ X => relayout X) (X := chunkVal m c 5)) $$ [Hl1 Ha5 Hs5 Ho5 Hv5 HO]
  · iclose
  iintro ⟨Hl1, Ha5, Hw5, HO⟩
  iapply (wp_chunk c 6 0 rfl rfl rfl rfl rfl rfl rfl rfl rfl rfl rfl (fun _ _ X => relayout X) (X := chunkVal m c 6)) $$ [Hl0 Ha6 Hs6 Ho6 Hv6 HO]
  · iclose
  iintro ⟨Hl0, Ha6, Hw6, HO⟩
  iapply (wp_chunk c 7 1 rfl rfl rfl rfl rfl rfl rfl rfl rfl rfl rfl (fun _ _ X => relayout X) (X := chunkVal m c 7)) $$ [Hl1 Ha7 Hs7 Ho7 Hv7 HO]
  · iclose
  iintro ⟨Hl1, Ha7, Hw7, HO⟩
  iapply (wp_out_done c 0 rfl rfl rfl) $$ [Hw0 HO]
  · iclose
  iintro ⟨Hs0, Ho0, Hv0, HO⟩
  iapply (wp_out_done c 1 rfl rfl rfl) $$ [Hw1 HO]
  · iclose
  iintro ⟨Hs1, Ho1, Hv1, HO⟩
  iapply (wp_out_done c 2 rfl rfl rfl) $$ [Hw2 HO]
  · iclose
  iintro ⟨Hs2, Ho2, Hv2, HO⟩
  iapply (wp_out_done c 3 rfl rfl rfl) $$ [Hw3 HO]
  · iclose
  iintro ⟨Hs3, Ho3, Hv3, HO⟩
  iapply (wp_out_done c 4 rfl rfl rfl) $$ [Hw4 HO]
  · iclose
  iintro ⟨Hs4, Ho4, Hv4, HO⟩
  iapply (wp_out_done c 5 rfl rfl rfl) $$ [Hw5 HO]
  · iclose
  iintro ⟨Hs5, Ho5, Hv5, HO⟩
  iapply (wp_out_done c 6 rfl rfl rfl) $$ [Hw6 HO]
  · iclose
  iintro ⟨Hs6, Ho6, Hv6, HO⟩
  iapply (wp_out_done c 7 rfl rfl rfl) $$ [Hw7 HO]
  · iclose
  iintro ⟨Hs7, Ho7, Hv7, HO⟩
  rw [dif_neg (leaves_kept c)]
  simp only [wp_ret]
  imodintro
  iapply Hk
  iclose

end Cert.PermuteProof

end
-- ==== Proof.Swapped.lean ====
/-
# Swapped: the kernel's run where the blocks change places
-/
module

public import proofs.«01_k».proof.Proof.Body
public import Idealize.ShloMosaic.Lib.SparseCore.ProtocolKit

@[expose] public section

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- What the exchange takes: the tokens of what the device signals, its credits and its places at its own semaphores. -/
def dealt : sProp 𝕄 :=
  iprop((dutyTok ER (barCell (partner c)) 0 () ∗ (bigSep Finset.univ fun k : Fin 8 => dutyTok ER (sendCell c k) 0 ())
      ∗ bigSep Finset.univ fun k : Fin 8 => dutyTok ER (recvCell (partner c) k) 0 ())
    ∗ (cred (tallyAt (barCell c) () 1) ∗ bigSep Finset.univ fun k : Fin 8 => cred (tallyAt (recvCell c k) () N))
    ∗ atPos ER (barCell c) 0 ∅ 0 ∗ (bigSep Finset.univ fun k : Fin 8 => atPos ER (sendCell c k) 0 ∅ 0)
      ∗ bigSep Finset.univ fun k : Fin 8 => atPos ER (recvCell c k) 0 ∅ 0)

/-- The exchange's semaphores, all back at zero. -/
def quiet : sProp 𝕄 :=
  iprop(semVal (barCell c) 0 ∗ (bigSep Finset.univ fun k : Fin 8 => semVal (sendCell c k) 0) ∗ bigSep Finset.univ fun k : Fin 8 => semVal (recvCell c k) 0)

set_option maxHeartbeats 4000000 in
/-- Where the permutation swaps the blocks, the kernel and its partner exchange theirs. -/
theorem run_swapped (K : Dev nD × Fin 19 → ℕ) (Q : PUnit → sProp 𝕄) :
    iprop((records m true K ∗ levAts L lv) ∗ (permAt c true ∗ held m c ∗ outs c ∗ dealt c ∗ owesAny c (owedAt true c))
        ∗ ((permAt c true ∗ held m c ∗ filled m c (partner c) ∗ quiet c ∗ owesAny c 0) -∗ Q ⟨⟩))
      ⊢ run c body Q := by
  unfold body
  simp only [cc0_body_eq_skeleton]; unfold cc0_body_skel
  simp only [smemLoad, smemLoadElt, Prog.lift, Prog.bind_op, Prog.bind_ret, Prog.pure_eq_ret, wp_deviceId]
  unfold held filled dealt quiet
  simp only [bigSep_eight]
  iintro ⟨⟨#HR, #HL⟩, ⟨Hpi, ⟨Hl0, Hl1, ⟨Ha0, Ha1, Ha2, Ha3, Ha4, Ha5, Ha6, Ha7⟩, ⟨Hs0, Hs1, Hs2, Hs3, Hs4, Hs5, Hs6, Hs7⟩⟩, Ho,
    ⟨⟨Tb, ⟨Ts0, Ts1, Ts2, Ts3, Ts4, Ts5, Ts6, Ts7⟩, ⟨Tr0, Tr1, Tr2, Tr3, Tr4, Tr5, Tr6, Tr7⟩⟩, ⟨Cb, ⟨Cr0, Cr1, Cr2, Cr3, Cr4, Cr5, Cr6, Cr7⟩⟩,
      Pb, ⟨Ps0, Ps1, Ps2, Ps3, Ps4, Ps5, Ps6, Ps7⟩, ⟨Pr0, Pr1, Pr2, Pr3, Pr4, Pr5, Pr6, Pr7⟩⟩, HO⟩, Hk⟩
  iapply (wp_entry c true) $$ Hpi; iintro Hpi
  iapply (wp_assume 𝒱₀ (c : Thread nD τ) none Set.univ (entry_checks true c))
  rw [if_neg (stays_swapped c), dif_pos (leaves_swapped c), k0_part22_eq_skeleton]
  unfold k0_part22_skel
  rw [k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton,
    k0_part21_eq_skeleton]
  unfold k0_part9_skel k0_part10_skel k0_part11_skel k0_part12_skel k0_part13_skel k0_part14_skel k0_part15_skel k0_part16_skel k0_part17_skel
    k0_part18_skel k0_part19_skel k0_part20_skel k0_part21_skel
  simp only [semSignalWord, semWaitWord, Prog.lift, Prog.bind_op, Prog.bind_ret, Prog.pure_eq_ret]
  have h1 : owedAt true c = owedL c allChunks + tallyAt (barCell (partner c)) () 1 := if_pos rfl
  ihave HO := (Entails.of_eq (congrArg (owesAny c) h1)) $$ HO
  iapply (wp_notify m K c (Fin.ext (dev1_eq c)) rfl rfl) $$ [Tb Ho HO]
  · iclose
  iintro HO
  iapply (wp_read_start c 0 0 rfl rfl rfl) $$ [Hl0 Ha0]
  · iclose
  iintro Hl0
  iapply (wp_read_start c 1 1 rfl rfl rfl) $$ [Hl1 Ha1]
  · iclose
  iintro Hl1
  iapply (wp_stage_owing c [0, 1, 2, 3, 4, 5, 6, 7] 0 0 rfl rfl rfl rfl rfl (fun _ _ X => relayout X) (X := chunkVal m c 0)) $$ [Hl0 Hs0 HO]
  · iclose
  iintro ⟨Hl0, Ha0, Hs0, HO⟩
  iapply (wp_read_start c 2 0 rfl rfl rfl) $$ [Hl0 Ha2]
  · iclose
  iintro Hl0
  iapply (wp_await m K c rfl rfl [0, 1, 2, 3, 4, 5, 6, 7]) $$ [Cb Pb HO]
  · iclose
  iintro ⟨Ho, Vb, HO⟩
  unfold outs
  simp only [bigSep_eight]
  icases Ho with ⟨Ho0, Ho1, Ho2, Ho3, Ho4, Ho5, Ho6, Ho7⟩
  iapply (wp_send m K c 0 [1, 2, 3, 4, 5, 6, 7] (Fin.ext (dev2_eq c)) rfl rfl rfl rfl) $$ [Hs0 Ho0 Ts0 Tr0 HO]
  · iclose
  iintro ⟨Cs0, HO⟩
  iapply (wp_stage_owing c [1, 2, 3, 4, 5, 6, 7] 1 1 rfl rfl rfl rfl rfl (fun _ _ X => relayout X) (X := chunkVal m c 1)) $$ [Hl1 Hs1 HO]
  · iclose
  iintro ⟨Hl1, Ha1, Hs1, HO⟩
  iapply (wp_read_start c 3 1 rfl rfl rfl) $$ [Hl1 Ha3]
  · iclose
  iintro Hl1
  iapply (wp_send m K c 1 [2, 3, 4, 5, 6, 7] (Fin.ext (dev3_eq c)) rfl rfl rfl rfl) $$ [Hs1 Ho1 Ts1 Tr1 HO]
  · iclose
  iintro ⟨Cs1, HO⟩
  iapply (wp_stage_owing c [2, 3, 4, 5, 6, 7] 2 0 rfl rfl rfl rfl rfl (fun _ _ X => relayout X) (X := chunkVal m c 2)) $$ [Hl0 Hs2 HO]
  · iclose
  iintro ⟨Hl0, Ha2, Hs2, HO⟩
  iapply (wp_read_start c 4 0 rfl rfl rfl) $$ [Hl0 Ha4]
  · iclose
  iintro Hl0
  iapply (wp_send m K c 2 [3, 4, 5, 6, 7] (Fin.ext (dev4_eq c)) rfl rfl rfl rfl) $$ [Hs2 Ho2 Ts2 Tr2 HO]
  · iclose
  iintro ⟨Cs2, HO⟩
  iapply (wp_stage_owing c [3, 4, 5, 6, 7] 3 1 rfl rfl rfl rfl rfl (fun _ _ X => relayout X) (X := chunkVal m c 3)) $$ [Hl1 Hs3 HO]
  · iclose
  iintro ⟨Hl1, Ha3, Hs3, HO⟩
  iapply (wp_read_start c 5 1 rfl rfl rfl) $$ [Hl1 Ha5]
  · iclose
  iintro Hl1
  iapply (wp_send m K c 3 [4, 5, 6, 7] (Fin.ext (dev5_eq c)) rfl rfl rfl rfl) $$ [Hs3 Ho3 Ts3 Tr3 HO]
  · iclose
  iintro ⟨Cs3, HO⟩
  iapply (wp_stage_owing c [4, 5, 6, 7] 4 0 rfl rfl rfl rfl rfl (fun _ _ X => relayout X) (X := chunkVal m c 4)) $$ [Hl0 Hs4 HO]
  · iclose
  iintro ⟨Hl0, Ha4, Hs4, HO⟩
  iapply (wp_read_start c 6 0 rfl rfl rfl) $$ [Hl0 Ha6]
  · iclose
  iintro Hl0
  iapply (wp_send m K c 4 [5, 6, 7] (Fin.ext (dev6_eq c)) rfl rfl rfl rfl) $$ [Hs4 Ho4 Ts4 Tr4 HO]
  · iclose
  iintro ⟨Cs4, HO⟩
  iapply (wp_stage_owing c [5, 6, 7] 5 1 rfl rfl rfl rfl rfl (fun _ _ X => relayout X) (X := chunkVal m c 5)) $$ [Hl1 Hs5 HO]
  · iclose
  iintro ⟨Hl1, Ha5, Hs5, HO⟩
  iapply (wp_read_start c 7 1 rfl rfl rfl) $$ [Hl1 Ha7]
  · iclose
  iintro Hl1
  iapply (wp_send m K c 5 [6, 7] (Fin.ext (dev7_eq c)) rfl rfl rfl rfl) $$ [Hs5 Ho5 Ts5 Tr5 HO]
  · iclose
  iintro ⟨Cs5, HO⟩
  iapply (wp_stage_owing c [6, 7] 6 0 rfl rfl rfl rfl rfl (fun _ _ X => relayout X) (X := chunkVal m c 6)) $$ [Hl0 Hs6 HO]
  · iclose
  iintro ⟨Hl0, Ha6, Hs6, HO⟩
  iapply (wp_send m K c 6 [7] (Fin.ext (dev8_eq c)) rfl rfl rfl rfl) $$ [Hs6 Ho6 Ts6 Tr6 HO]
  · iclose
  iintro ⟨Cs6, HO⟩
  iapply (wp_stage_owing c [7] 7 1 rfl rfl rfl rfl rfl (fun _ _ X => relayout X) (X := chunkVal m c 7)) $$ [Hl1 Hs7 HO]
  · iclose
  iintro ⟨Hl1, Ha7, Hs7, HO⟩
  iapply (wp_send m K c 7 [] (Fin.ext (dev9_eq c)) rfl rfl rfl rfl) $$ [Hs7 Ho7 Ts7 Tr7 HO]
  · iclose
  iintro ⟨Cs7, HO⟩
  iapply (wp_sent m K c 0 rfl rfl) $$ [Cs0 Ps0 HO]
  · iclose
  iintro ⟨Hs0, Vs0, HO⟩
  iapply (wp_received m K c 0 rfl rfl) $$ [Cr0 Pr0 HO]
  · iclose
  iintro ⟨Ho0, Vr0, HO⟩
  iapply (wp_sent m K c 1 rfl rfl) $$ [Cs1 Ps1 HO]
  · iclose
  iintro ⟨Hs1, Vs1, HO⟩
  iapply (wp_received m K c 1 rfl rfl) $$ [Cr1 Pr1 HO]
  · iclose
  iintro ⟨Ho1, Vr1, HO⟩
  iapply (wp_sent m K c 2 rfl rfl) $$ [Cs2 Ps2 HO]
  · iclose
  iintro ⟨Hs2, Vs2, HO⟩
  iapply (wp_received m K c 2 rfl rfl) $$ [Cr2 Pr2 HO]
  · iclose
  iintro ⟨Ho2, Vr2, HO⟩
  iapply (wp_sent m K c 3 rfl rfl) $$ [Cs3 Ps3 HO]
  · iclose
  iintro ⟨Hs3, Vs3, HO⟩
  iapply (wp_received m K c 3 rfl rfl) $$ [Cr3 Pr3 HO]
  · iclose
  iintro ⟨Ho3, Vr3, HO⟩
  iapply (wp_sent m K c 4 rfl rfl) $$ [Cs4 Ps4 HO]
  · iclose
  iintro ⟨Hs4, Vs4, HO⟩
  iapply (wp_received m K c 4 rfl rfl) $$ [Cr4 Pr4 HO]
  · iclose
  iintro ⟨Ho4, Vr4, HO⟩
  iapply (wp_sent m K c 5 rfl rfl) $$ [Cs5 Ps5 HO]
  · iclose
  iintro ⟨Hs5, Vs5, HO⟩
  iapply (wp_received m K c 5 rfl rfl) $$ [Cr5 Pr5 HO]
  · iclose
  iintro ⟨Ho5, Vr5, HO⟩
  iapply (wp_sent m K c 6 rfl rfl) $$ [Cs6 Ps6 HO]
  · iclose
  iintro ⟨Hs6, Vs6, HO⟩
  iapply (wp_received m K c 6 rfl rfl) $$ [Cr6 Pr6 HO]
  · iclose
  iintro ⟨Ho6, Vr6, HO⟩
  iapply (wp_sent m K c 7 rfl rfl) $$ [Cs7 Ps7 HO]
  · iclose
  iintro ⟨Hs7, Vs7, HO⟩
  iapply (wp_received m K c 7 rfl rfl) $$ [Cr7 Pr7 HO]
  · iclose
  iintro ⟨Ho7, Vr7, HO⟩
  simp only [wp_ret]
  imodintro
  iapply Hk
  iclose

end Cert.PermuteProof

end
-- ==== Proof.Point.lean ====
/-
# Point: a device's run, from its buffers and semaphores back to them, in both modes
-/
module

public import proofs.«01_k».proof.Proof.Pieces
public import proofs.«01_k».proof.Proof.Kept
public import proofs.«01_k».proof.Proof.Swapped

@[expose] public section

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## What a device's run starts from and ends with -/

/-- The device's places at its nineteen semaphores. -/
def positions : sProp 𝕄 := bigSep Finset.univ fun i : Fin 19 => atPos ER (kcell (c, i)) 0 ∅ 0

/-- The tokens of what the device signals: its partner's barrier, its departures, its partner's arrivals. -/
def payToks : sProp 𝕄 :=
  iprop(dutyTok ER (barCell (partner c)) 0 () ∗ (bigSep Finset.univ fun k : Fin 8 => dutyTok ER (sendCell c k) 0 ())
    ∗ bigSep Finset.univ fun k : Fin 8 => dutyTok ER (recvCell (partner c) k) 0 ())

/-- What the device is to receive where the blocks are swapped: its barrier's unit, its arrivals. -/
def creds (sw : Bool) : sProp 𝕄 :=
  if sw then iprop(cred (tallyAt (barCell c) () 1) ∗ bigSep Finset.univ fun k : Fin 8 => cred (tallyAt (recvCell c k) () N)) else iprop(emp)

/-- The device's nineteen semaphores at zero. -/
def zeros : sProp 𝕄 := bigSep Finset.univ fun i : Fin 19 => semVal (kcell (c, i)) 0

/-- The two scratch buffers, at any values. -/
def scratch : sProp 𝕄 :=
  iprop((∃ f : Buf (Elt F) ((c : Thread nD τ).loc cc0_scratch0), (c : Thread nD τ).loc cc0_scratch0 ↦{fullShare} f)
    ∗ ∃ f : Buf (Elt F) ((c : Thread nD τ).loc cc0_scratch1), (c : Thread nD τ).loc cc0_scratch1 ↦{fullShare} f)

/-- The device's input block. -/
def inputAt : sProp 𝕄 := ((c : Thread nD τ).loc main_arg0 ↦{fullShare} m ((c : Thread nD τ).loc main_arg0))

/-- The device's output block, with device `d`'s input in it. -/
def outputAt (d : Dev nD) : sProp 𝕄 := ((c : Thread nD τ).loc main_v1 ↦{fullShare} (blockOf m d : Buf (Elt F) ((c : Thread nD τ).loc main_v1)))

/-- The input is its eight chunks. -/
theorem input_chunks : (inputAt m c : sProp 𝕄) ⊢ bigSep Finset.univ fun k : Fin 8 => owns (c : Thread nD τ) (aC k) fullShare (chunkVal m c k) := by
  unfold inputAt
  refine BIBase.Entails.trans (Entails.of_eq (owns_whole (c : Thread nD τ) main_arg0 fullShare _).symm) ?_
  exact split_chunks c (Memref.whole main_arg0) (blockOf m c)

/-- The input's eight chunks make up the input block. -/
theorem chunks_input : (bigSep Finset.univ fun k : Fin 8 => (owns (c : Thread nD τ) (aC k) fullShare (chunkVal m c k) : sProp 𝕄)) ⊢ inputAt m c := by
  unfold inputAt
  refine BIBase.Entails.trans (join_chunks c (Memref.whole main_arg0) (blockOf m c)) ?_
  exact Entails.of_eq (owns_whole (c : Thread nD τ) main_arg0 fullShare _)

/-- The output's eight chunks, at device `d`'s values, make up the output at those values. -/
theorem chunks_output (d : Dev nD) : (filled m c d : sProp 𝕄) ⊢ outputAt m c d := by
  unfold outputAt filled
  refine BIBase.Entails.trans (join_chunks c (Memref.whole main_v1) (blockOf m d)) ?_
  exact Entails.of_eq (owns_whole (c : Thread nD τ) main_v1 fullShare _)

/-- The output buffer at any values splits into its eight chunks. -/
theorem output_chunks : (iprop(∃ f : Buf (Elt F) ((c : Thread nD τ).loc main_v1), (c : Thread nD τ).loc main_v1 ↦{fullShare} f) : sProp 𝕄) ⊢ outs c := by
  unfold outs
  refine BIBase.Entails.trans ?_ (split_any c (Memref.whole main_v1))
  iintro ⟨%f, H⟩
  iexists f
  iapply (Entails.of_eq (owns_whole (c : Thread nD τ) main_v1 fullShare f).symm); iexact H

/-- The send buffer at any values splits into its eight chunks, -/
theorem sendbuf_chunks : (iprop(∃ f : Buf (Elt F) ((c : Thread nD τ).loc cc0_scratch1), (c : Thread nD τ).loc cc0_scratch1 ↦{fullShare} f) : sProp 𝕄)
    ⊢ bigSep Finset.univ fun k : Fin 8 => iprop(∃ w, owns (c : Thread nD τ) (sC k) fullShare w) := by
  refine BIBase.Entails.trans ?_ (split_any c (Memref.whole cc0_scratch1))
  iintro ⟨%f, H⟩
  iexists f
  iapply (Entails.of_eq (owns_whole (c : Thread nD τ) cc0_scratch1 fullShare f).symm); iexact H

/-- and they make it up again. -/
theorem chunks_sendbuf : (bigSep Finset.univ fun k : Fin 8 => (iprop(∃ w, owns (c : Thread nD τ) (sC k) fullShare w) : sProp 𝕄))
    ⊢ iprop(∃ f : Buf (Elt F) ((c : Thread nD τ).loc cc0_scratch1), (c : Thread nD τ).loc cc0_scratch1 ↦{fullShare} f) := by
  refine BIBase.Entails.trans (join_any c (Memref.whole cc0_scratch1)) ?_
  iintro ⟨%f, H⟩
  iexists f
  iapply (Entails.of_eq (owns_whole (c : Thread nD τ) cc0_scratch1 fullShare f)); iexact H

/-- The buffers and the reads' semaphores are what the run works on, -/
theorem held_intro : iprop(scratch c ∗ inputAt m c ∗ semVal (loadCell c 0) 0 ∗ semVal (loadCell c 1) 0) ⊢ (held m c : sProp 𝕄) := by
  unfold scratch held slotFree
  iintro ⟨⟨H0, H1⟩, Ha, V0, V1⟩
  ihave H0 := (open_slots c) $$ H0
  icases H0 with ⟨L0, L1⟩
  ihave H1 := (sendbuf_chunks c) $$ H1
  ihave Ha := (input_chunks m c) $$ Ha
  iclose

/-- and are that again at its end. -/
theorem held_elim : (held m c : sProp 𝕄) ⊢ iprop(scratch c ∗ inputAt m c ∗ semVal (loadCell c 0) 0 ∗ semVal (loadCell c 1) 0) := by
  unfold scratch held slotFree
  iintro ⟨⟨L0, V0⟩, ⟨L1, V1⟩, Ha, H1⟩
  ihave H1 := (chunks_sendbuf c) $$ H1
  ihave Ha := (chunks_input m c) $$ Ha
  ihave H0 := (close_slots c) $$ [L0 L1]
  · iclose
  iclose

/-- Semaphores no one signals are given back at zero. -/
theorem close_unused (sw : Bool) (K : Dev nD × Fin 19 → ℕ) (i : Fin 8 → Fin 19) (s : Fin 8 → SemLoc sig) (h : ∀ k, csem (i k) = s k)
    (hR : ∀ k r, (exch (F := F) m sw).duties ((c : Thread nD τ), s k) r = ∅) :
    iprop(records m sw K ∗ bigSep Finset.univ fun k : Fin 8 => atPos ER ((c : Thread nD τ), s k) 0 ∅ 0)
      ⊢ iprop(|={Set.univ}=> bigSep Finset.univ fun k : Fin 8 => semVal ((c : Thread nD τ), s k) 0) :=
  BIBase.Entails.trans (BI.bigSep_with_persistent fun k _ => close_at m sw K c (i k) (h k) 0 fun r _ => hR k r) (bigSep_fupd _ _)

/-- A device's whole run, in either mode: the output ends holding the source's input, everything else is as it was. -/
theorem run_either (sw : Bool) (K : Dev nD × Fin 19 → ℕ) (Q : PUnit → sProp 𝕄) :
    iprop((records m sw K ∗ levAts L lv) ∗ (creds c sw ∗ positions c ∗ payToks c)
        ∗ (permAt c sw ∗ scratch c ∗ inputAt m c ∗ (∃ f : Buf (Elt F) ((c : Thread nD τ).loc main_v1), (c : Thread nD τ).loc main_v1 ↦{fullShare} f)
          ∗ owesAny c (owedAt sw c))
        ∗ ((permAt c sw ∗ scratch c ∗ inputAt m c ∗ outputAt m c (source sw c) ∗ zeros c ∗ owesAny c 0) -∗ Q ⟨⟩))
      ⊢ run c body Q := by
  unfold positions zeros
  rw [bigSep_sems fun s => atPos ER ((c : Thread nD τ), s) 0 ∅ 0, bigSep_sems fun s => semVal ((c : Thread nD τ), s) 0]
  iintro ⟨⟨#HR, #HL⟩, ⟨Hcr, ⟨Pb, ⟨Pl0, Pl1⟩, Ps, Pr⟩, Ht⟩, ⟨Hpi, Hsc, Hin, Hout, HO⟩, Hk⟩
  imod (close_at m sw K c (ldI 0) (csem_load 0) 0 fun r _ => duties_load m sw c 0 r) $$ [Pl0] with Vl0
  · iclose
  imod (close_at m sw K c (ldI 1) (csem_load 1) 0 fun r _ => duties_load m sw c 1 r) $$ [Pl1] with Vl1
  · iclose
  ihave Hh := (held_intro m c) $$ [Hsc Hin Vl0 Vl1]
  · iclose
  ihave Ho := (output_chunks c) $$ Hout
  cases sw with
  | false =>
    imod (close_at m false K c 0 csem_bar 0 fun r _ => duties_kept m _ r) $$ [Pb] with Vb
    · iclose
    imod (close_unused m c false K sdI (fun k => .dma (sdS k)) csem_send fun k r => duties_kept m _ r) $$ [Ps] with Vs
    · iclose
    imod (close_unused m c false K rvI (fun k => .dma (rvS k)) csem_recv fun k r => duties_kept m _ r) $$ [Pr] with Vr
    · iclose
    iapply (run_kept m c Q)
    isplitl [Hpi Hh Ho Vs HO]
    · isplitl [Hpi]; · iexact Hpi
      isplitl [Hh]; · iexact Hh
      isplitl [Ho]; · iexact Ho
      isplitl [Vs]; · iexact Vs
      iexact HO
    iintro ⟨Hpi, Hh, Ho, Vs, HO⟩
    ihave Hh := (held_elim m c) $$ Hh
    icases Hh with ⟨Hsc, Hin, Vl0, Vl1⟩
    ihave Ho := (chunks_output m c c) $$ Ho
    iapply Hk
    iclose
  | true =>
    iapply (run_swapped m c K Q)
    isplitr
    · iclose
    isplitl [Hpi Hh Ho Hcr Ht Pb Ps Pr HO]
    · unfold dealt payToks creds
      ihave Hcr := (Entails.of_eq (if_pos rfl)) $$ Hcr
      icases Hcr with ⟨Cb, Cr⟩
      icases Ht with ⟨Tb, Ts, Tr⟩
      iclose
    unfold quiet
    iintro ⟨Hpi, Hh, Ho, ⟨Vb, Vs, Vr⟩, HO⟩
    ihave Hh := (held_elim m c) $$ Hh
    icases Hh with ⟨Hsc, Hin, Vl0, Vl1⟩
    ihave Ho := (chunks_output m c (partner c)) $$ Ho
    iapply Hk
    iclose

end Cert.PermuteProof

end
-- ==== Proof.Deal.lean ====
/-
# Deal: from the launch's semaphores and elements to what each device starts from
-/
module

public import proofs.«01_k».proof.Proof.Point

@[expose] public section

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (sw : Bool)

/-! ## The exchange's cells and tokens -/

/-- Every device's nineteen semaphores, -/
def allCells : Finset (GSem nD τ sig) := Finset.univ.map ⟨kcell, kcell_injective⟩

/-- Distinct semaphores have distinct tokens. -/
theorem tokens_injective : Function.Injective fun ci : Dev nD × Fin 19 => ((kcell ci, 0, ()) : GSem nD τ sig × ℕ × Unit) :=
  fun a b h => kcell_injective (congrArg (fun x : GSem nD τ sig × ℕ × Unit => x.1) h)

/-- and one signal's token of each. -/
def allToks : Finset (GSem nD τ sig × ℕ × Unit) := Finset.univ.map ⟨_, tokens_injective⟩

/-- The launch's element: the staging's, the exchange's, and no counter. -/
def launchElt : UU :=
  (initOf (Pipeline.cells cfgs cellOf_inj) (Pipeline.launchToks cfgs cellOf_inj), (initOf allCells allToks, 1))

/-- The tokens of a device's own semaphores. -/
def ownToks (c : Dev nD) : sProp 𝕄 := bigSep Finset.univ fun i : Fin 19 => dutyTok ER (kcell (c, i)) 0 ()

/-- What a device has of the element: its semaphores' states and marks, its places, its own tokens. -/
def minted (c : Dev nD) : sProp 𝕄 :=
  iprop((bigSep Finset.univ fun i : Fin 19 => roundState ER (exch m sw) (kcell (c, i)) 0)
    ∗ positions c ∗ (bigSep Finset.univ fun i : Fin 19 => reached ER (kcell (c, i)) 0) ∗ ownToks c)

/-- What a device starts the exchange from, its partner's tokens in hand. -/
def ready (c : Dev nD) : sProp 𝕄 := iprop(∃ K, records m sw K ∗ positions c ∗ payToks c)

/-- The exchange's launch element gives every device its part of the records, its places and its tokens. -/
theorem mint : BI.own (ER (initOf allCells allToks)) ⊢ (|==> bigSep Finset.univ (minted m sw) : sProp 𝕄) := by
  have hX (Φ : GSem nD τ sig → sProp 𝕄) : bigSep allCells Φ = bigSep Finset.univ fun c : Dev nD => bigSep Finset.univ fun i : Fin 19 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks ownToks; rw [bigSep_map, bigSep_univ_prod]; rfl
  iintro H
  imod (Rounds.fund ER (exch m sw) allCells allToks) $$ H with ⟨Hs, Hr, Ha, Ht⟩
  imodintro
  ihave Hs := (Entails.of_eq (hX fun g => roundState ER (exch m sw) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  unfold minted positions
  simp only [bigSep_sep']
  iclose

/-! ## The semaphores at zero, before and after -/

/-- The kernel's own semaphores at zero, one conjunct each. -/
theorem ownSems_eq (c : Dev nD) : (Pipeline.ownSems0 (Ix := Unit) (Name := ℕ) (U := UU) (Lvl := ℕ) (Val := Elt F) (τ := τ) osem c : sProp 𝕄)
    = iprop((semVal (loadCell c 0) 0 ∗ semVal (loadCell c 1) 0) ∗ (bigSep Finset.univ fun k : Fin 8 => semVal (sendCell c k) 0)
      ∗ bigSep Finset.univ fun k : Fin 8 => semVal (recvCell c k) 0) := by
  rw [Pipeline.ownSems0_eq_of_list c osem [0, 1, 2, 3, 4, 5, 6, 7, 8, 9, 10, 11, 12, 13, 14, 15, 16, 17] (by decide) (by decide),
    bigSep_eight, bigSep_eight]
  simp only [sep_regroup]
  rfl

/-- The one semaphore that outlives the launch is the barrier. -/
theorem freeSems_eq (c : Dev nD) : (unscopedSems0 c : sProp 𝕄) = semVal (barCell c) 0 := by
  unfold unscopedSems0; rw [bigSep_eq_bigSepL_of_eq [SemLoc.reg barS] (by decide) (by decide)]; rfl

/-- All nineteen semaphores at zero are the barrier and the kernel's own. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  rw [ownSems_eq, freeSems_eq]
  unfold zeros
  rw [bigSep_sems fun s => semVal ((c : Thread nD τ), s) 0]

/-! ## The invariants, and the tokens dealt -/

/-- A device's semaphores, at zero and in their first round, become invariants. -/
theorem allot (c : Dev nD) :
    iprop(Pipeline.ownSems0 (Ix := Unit) (Name := ℕ) (U := UU) (Lvl := ℕ) (Val := Elt F) (τ := τ) osem c ∗ unscopedSems0 c ∗ minted m sw c)
      ⊢ |={Set.univ}=> iprop((bigSep Finset.univ fun i => iprop(∃ κ : ℕ, cellInv ER (exch m sw) κ (kcell (c, i))))
          ∗ positions c ∗ (bigSep Finset.univ fun i : Fin 19 => reached ER (kcell (c, i)) 0) ∗ ownToks c) := by
  unfold minted
  iintro ⟨Ho, Hu, Hs, Ha, Hr, Ht⟩
  ihave Hz := (Entails.of_eq (zeros_eq (F := F) c).symm) $$ [Ho Hu]
  · iclose
  imod (show iprop(zeros c ∗ bigSep Finset.univ fun i : Fin 19 => roundState ER (exch m sw) (kcell (c, i)) 0)
      ⊢ (|={Set.univ}=> bigSep Finset.univ fun i => iprop(∃ κ : ℕ, cellInv ER (exch m sw) κ (kcell (c, i))) : sProp 𝕄) from by
        unfold zeros
        rw [← bigSep_sep']
        exact (bigSep_mono fun i _ => (Rounds.body_intro ER (exch m sw) (kcell (c, i))).trans inv_alloc).trans (bigSep_fupd _ _)) $$ [Hz Hs] with Hi
  · iclose
  imodintro
  iclose

/-- A device's own tokens, sorted into the barrier's, the departures' and the arrivals'. -/
theorem ownToks_parts (c : Dev nD) : (ownToks c : sProp 𝕄) ⊢ iprop(dutyTok ER (barCell c) 0 ()
    ∗ (bigSep Finset.univ fun k : Fin 8 => dutyTok ER (sendCell c k) 0 ()) ∗ bigSep Finset.univ fun k : Fin 8 => dutyTok ER (recvCell c k) 0 ()) := by
  unfold ownToks
  rw [bigSep_sems fun s => dutyTok ER ((c : Thread nD τ), s) 0 ()]
  iintro ⟨Hb, -, Hs, Hr⟩
  iclose

/-- Each device's barrier's and arrivals' tokens go to its partner. -/
theorem tokens_dealt : (bigSep Finset.univ fun c : Dev nD => (ownToks c : sProp 𝕄)) ⊢ bigSep Finset.univ fun c : Dev nD => payToks c := by
  refine BIBase.Entails.trans (bigSep_mono fun c _ => ownToks_parts c) ?_
  unfold payToks
  rw [bigSep_sep', bigSep_sep', bigSep_sep', bigSep_sep',
    bigSep_univ_equiv partnerE (fun c : Dev nD => (dutyTok ER (barCell c) 0 () : sProp 𝕄)),
    bigSep_univ_equiv partnerE (fun c : Dev nD => (bigSep Finset.univ fun k : Fin 8 => dutyTok ER (recvCell c k) 0 () : sProp 𝕄))]
  exact BIBase.Entails.rfl

/-- From every device's invariants, places, marks and tokens, every device gets what it starts the exchange from. -/
theorem gather_up :
    (bigSep Finset.univ fun c : Dev nD => iprop((bigSep Finset.univ fun i => iprop(∃ κ : ℕ, cellInv ER (exch m sw) κ (kcell (c, i))))
          ∗ positions c ∗ (bigSep Finset.univ fun i : Fin 19 => reached ER (kcell (c, i)) 0) ∗ ownToks c) : sProp 𝕄)
      ⊢ bigSep Finset.univ (ready m sw) := by
  rw [bigSep_sep', bigSep_sep', bigSep_sep', ← bigSep_univ_prod (fun ci : Dev nD × Fin 19 => iprop(∃ κ : ℕ, cellInv ER (exch m sw) κ (kcell ci))),
    ← bigSep_univ_prod (fun ci : Dev nD × Fin 19 => (reached ER (kcell ci) 0 : sProp 𝕄))]
  iintro ⟨HI, Ha, #HR, Ht⟩
  ihave HK := (BI.bigSep_exists_pi Finset.univ (fun (ci : Dev nD × Fin 19) (κ : ℕ) => (cellInv ER (exch m sw) κ (kcell ci) : sProp 𝕄))) $$ HI
  icases HK with ⟨%K, #HI⟩
  ihave Ht := (tokens_dealt (F := F)) $$ Ht
  iapply (BI.bigSep_with_persistent (S := Finset.univ) (Φ := fun c => iprop(positions c ∗ payToks c)) fun c _ =>
    (show iprop(records m sw K ∗ positions c ∗ payToks c) ⊢ ready m sw c by unfold ready; iintro ⟨H1, H2, H3⟩; iexists K; iclose))
  isplitr
  · iapply (records_of m sw K); isplitl; · iexact HI
    iexact HR
  · rw [bigSep_sep']
    iclose

/-- All devices' semaphores at once, with what the element gave them, are what they start from. -/
theorem deal : (bigSep Finset.univ fun c => iprop(Pipeline.ownSems0 (Ix := Unit) (Name := ℕ) (U := UU) (Lvl := ℕ) (Val := Elt F) (τ := τ) osem c
      ∗ unscopedSems0 c ∗ minted m sw c) : sProp 𝕄) ⊢ |={Set.univ}=> bigSep Finset.univ (ready m sw) :=
  ((bigSep_mono fun c _ => allot m sw c).trans (bigSep_fupd _ _)).trans (BI.fupd_mono (gather_up m sw))

/-! ## What the devices owe at launch, seen from the receivers -/

/-- An arrival semaphore belongs to one device and one chunk. -/
theorem recv_inj {a b : Dev nD} {j k : Fin 8} (h : recvCell a j = recvCell b k) : a = b ∧ j = k := by
  refine ⟨congrArg (fun g : GSem nD τ sig => g.1.1) h, ?_⟩
  have h2 : (SemLoc.dma (rvS j) : SemLoc sig) = .dma (rvS k) := congrArg (fun g : GSem nD τ sig => g.2) h
  rw [← chunkOf_recv j, SemLoc.dma.inj h2, chunkOf_recv]

/-- An arrival semaphore is no barrier. -/
theorem recv_ne_bar (k : Fin 8) : (SemLoc.dma (rvS k) : SemLoc sig) ≠ .reg barS := fun h => by cases h

/-- Sending chunks owes no barrier anything. -/
theorem owedL_bar (d c : Dev nD) (l : List (Fin 8)) : owedL d l (barCell c) () = 0 := by
  refine Nat.eq_zero_of_not_pos fun h => ?_
  obtain ⟨k, hk⟩ := owedL_pos d l h
  exact recv_ne_bar k (congrArg (fun g : GSem nD τ sig => g.2) hk).symm

/-- Sending the chunks of a list owes a partner's arrival semaphore a chunk for each time that the chunk is listed. -/
theorem owedL_recv (d c : Dev nD) (k : Fin 8) (l : List (Fin 8)) :
    owedL d l (recvCell c k) () = if d = partner c then N * l.count k else 0 := by
  induction l with
  | nil => simp [owedL]
  | cons j l ih =>
    unfold owedL
    rw [Pi.add_apply, Finsupp.add_apply, ih, tallyAt_apply]
    by_cases hd : d = partner c
    · subst hd
      rw [if_pos rfl, if_pos rfl, partner_partner]
      by_cases hj : j = k
      · subst hj; rw [if_pos ⟨rfl, rfl⟩, List.count_cons_self, Nat.mul_add, Nat.mul_one]
      · rw [if_neg fun h => hj (recv_inj h.1).2.symm, List.count_cons_of_ne hj, Nat.add_zero]
    · rw [if_neg hd, if_neg hd, if_neg fun h => hd (by rw [(recv_inj h.1).1, partner_partner])]

/-- At the launch a barrier is owed one unit by the partner, and by no one else. -/
theorem owed_bar (d c : Dev nD) : owedAt true d (barCell c) () = if d = partner c then 1 else 0 := by
  unfold owedAt
  rw [if_pos rfl, Pi.add_apply, Finsupp.add_apply, owedL_bar, Nat.zero_add, tallyAt_apply]
  by_cases hd : d = partner c
  · subst hd; rw [partner_partner, if_pos ⟨rfl, rfl⟩, if_pos rfl]
  · rw [if_neg hd, if_neg fun h => hd (by rw [show c = partner d from congrArg (fun g : GSem nD τ sig => g.1.1) h.1, partner_partner])]

/-- At the launch an arrival semaphore is owed one chunk by the partner, and by no one else. -/
theorem owed_recv (d c : Dev nD) (k : Fin 8) : owedAt true d (recvCell c k) () = if d = partner c then N else 0 := by
  unfold owedAt
  rw [if_pos rfl, Pi.add_apply, Finsupp.add_apply, owedL_recv, tallyAt_ne_cell (fun h => recv_ne_bar k (congrArg Prod.snd h)), Finsupp.zero_apply, Nat.add_zero,
    show allChunks.count k = 1 by revert k; decide, Nat.mul_one]

/-- All devices' debts to a barrier come to one unit. -/
theorem credit_bar (c : Dev nD) :
    tallyOn (barCell c) (launchCredit (Pipeline.owing (owedAt true)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (partner c) fun _ => 1,
    if_pos (Finset.mem_univ _)]

/-- All devices' debts to an arrival semaphore come to one chunk. -/
theorem credit_recv (c : Dev nD) (k : Fin 8) :
    tallyOn (recvCell c k) (launchCredit (Pipeline.owing (owedAt true)) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (partner c) fun _ => N,
    if_pos (Finset.mem_univ _)]

/-- What a device is to receive is what its partner owes it. -/
theorem creds_intro (c : Dev nD) : (Pipeline.launchCred (owedAt sw) c : sProp 𝕄) ⊢ creds c sw := by
  unfold creds
  cases sw with
  | false => rw [if_neg Bool.false_ne_true]; iintro -; iempintro
  | true =>
    rw [if_pos rfl]
    unfold Pipeline.launchCred
    rw [bigSep_univ_at _ (SemLoc.reg barS), credit_bar]
    refine sep_mono_right ?_
    refine BIBase.Entails.trans (bigSep_subset (t := Finset.univ.map ⟨fun k : Fin 8 => (SemLoc.dma (rvS k) : SemLoc sig), by decide⟩) ?_) ?_
    · intro s hs
      obtain ⟨k, -, rfl⟩ := Finset.mem_map.mp hs
      exact Finset.mem_erase.mpr ⟨recv_ne_bar k, Finset.mem_univ _⟩
    · rw [bigSep_map]
      exact bigSep_mono fun k _ => Entails.of_eq (congrArg cred (credit_recv c k))

end Cert.PermuteProof

end
-- ==== Proof.Launch.lean ====
/-
# Launch: every execution terminates, and what it leaves in memory
-/
module

public import proofs.«01_k».proof.Proof.Deal
public import Idealize.ShloMosaic.Lib.Pipeline.CollectiveSegs

@[expose] public section

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (sw : Bool)

/-- The state at launch: any memory, every counter at zero, any generator registers. -/
def init : MemSt nD τ sig (Elt F) := ⟨m, fun _ => 0, ρ⟩

/-- What is not staged, at the start of a device's run, -/
def before (c : Dev nD) : sProp 𝕄 :=
  iprop((ready m sw c ∗ creds c sw ∗ levAts L lv) ∗ inputAt m c ∗ (∃ f : Buf (Elt F) ((c : Thread nD τ).loc main_v1), (c : Thread nD τ).loc main_v1 ↦{fullShare} f))
/-- and at its end. -/
def finished (c : Dev nD) : sProp 𝕄 := iprop(inputAt m c ∗ outputAt m c (source sw c))

/-- The staging's data: the permutation is staged, and the run's own resources go through as they are. -/
def dats (_ : Fin 1) (c : Dev nD) : Dat τ (Elt F) Unit ℕ UU ℕ cfg0 c where
  A w := (init m ρ).mem ((cfg0.win w).arr.view.loc (c : Thread nD τ))
  after w _ := match w with
    | ⟨0, _⟩ => perm sw
  Φ t := match t with
    | ⟨0, _⟩ => iprop(before m sw c ∗ scratch c)
    | ⟨_ + 1, _⟩ => iprop((finished m sw c ∗ zeros c) ∗ scratch c)
  q _ := fullShare
  owed t := match t with
    | ⟨0, _⟩ => owedAt sw c
    | ⟨_ + 1, _⟩ => 0

/-- The one staged window is the whole permutation: reading it changes nothing. -/
theorem staged_whole (f : S2.Idx → Elt F .i32) : (win0_0.blk t0_0).view.read (Elt F) f = f :=
  Memref.read_access_unit_zero (Elt F) main_arg1
    (show (fun a => (win0_0.index t0_0) a * main_arg1.ty.shape.size a) = fun _ => 0 from funext fun a => by fin_cases a; decide) (fun a => by fin_cases a; decide) f

section Perm
variable (hpi : ∀ c : Dev nD, m ((c : Thread nD τ).loc main_arg1) = perm sw)
include hpi

/-- The staged permutation is the one every device has. -/
theorem staged_eq (c : Dev nD) (d) : (dats m ρ sw 0 c).before (0 : Fin 1) t0_0 d = perm sw := by
  unfold Dat.before
  rw [if_pos (fetch0_0 t0_0)]
  show (win0_0.blk t0_0).view.read (Elt F) (m ((c : Thread nD τ).loc main_arg1)) = _
  rw [staged_whole, hpi]

set_option maxRecDepth 4000 in
/-- The kernel's body takes what stands before it to what stands after. -/
theorem body_step (c : Dev nD) : BodyObligation (dats m ρ sw 0 c) (defs₀ (F := F)) 𝒱₀ () Set.univ := fun t => by
  rw [fin_N0 t]
  rw [bigSep_W0, bigSep_W0]
  show iprop((before m sw c ∗ scratch c) ∗ (dats m ρ sw 0 c).owesAt () t0_0.castSucc
      ∗ ∃ d, owns (c : Thread nD τ) (Memref.whole cc0_stg0_0) fullShare ((dats m ρ sw 0 c).before (0 : Fin 1) t0_0 d))
    ⊢ run c body fun _ => iprop(((finished m sw c ∗ zeros c) ∗ scratch c) ∗ (dats m ρ sw 0 c).owesAt () t0_0.succ
      ∗ owns (c : Thread nD τ) (Memref.whole cc0_stg0_0) fullShare (perm sw))
  unfold before ready
  iintro ⟨⟨⟨⟨⟨%K, #HR, Hp, Ht⟩, Hc, #HL⟩, Hin, Hout⟩, Hs⟩, Ho, %d, Hpi⟩
  ihave Hpi := (Entails.of_eq (congrArg (fun X => owns (c : Thread nD τ) (Memref.whole cc0_stg0_0) fullShare X) (staged_eq m ρ sw hpi c d))) $$ Hpi
  ihave Hpi := (Entails.of_eq (owns_whole (c : Thread nD τ) cc0_stg0_0 fullShare (perm sw))) $$ Hpi
  unfold Dat.owesAt Pipeline.owesWithin
  icases Ho with ⟨%W, %hW, HO⟩
  iapply (run_either m c sw K)
  isplitr; · iclose
  isplitl [Hc Hp Ht]; · iclose
  isplitl [Hpi Hs Hin Hout HO]
  · unfold permAt owesAny
    isplitl [Hpi]; · iexact Hpi
    isplitl [Hs]; · iexact Hs
    isplitl [Hin]; · iexact Hin
    isplitl [Hout]; · iexact Hout
    iexists W; iexact HO
  unfold permAt owesAny finished
  iintro ⟨Hpi, Hs, Hin, Hout, Hz, %W', HO⟩
  isplitl [Hs Hin Hout Hz]
  · iclose
  isplitl [HO]
  · iexists W'
    isplitr; · ipureintro; exact fun _ _ => Or.inl trivial
    iexact HO
  iapply (Entails.of_eq (owns_whole (c : Thread nD τ) cc0_stg0_0 fullShare (perm sw)).symm)
  iexact Hpi

end Perm

/-! ## The launch -/

/-- The kernel's own semaphores are distinct, and none of them is the staging's. -/
theorem osem_facts : Pipeline.OwnSemFacts cfg0.spec osem := by decide

/-- Every window is held in full. -/
theorem whole_share (c : Dev nD) (w : Fin cfg0.W) : (dats m ρ sw 0 c).share w = fullShare := by unfold Dat.share; split <;> rfl

/-- What the launch gives a device holds what the device starts from. -/
theorem start_intro (c : Dev nD) :
    iprop(Pipeline.unscopedRestP Pipeline.Prefetch.none cfg0.spec c (fun b => m ((c : Thread nD τ).loc b)) ∗ levAts L lv
        ∗ Pipeline.launchCred (owedAt sw) c ∗ prngReg c (ρ c) ∗ ready m sw c)
      ⊢ |={Set.univ}=> iprop(before m sw c ∗ emp) := by
  rw [Pipeline.unscopedRestP_none, unscopedRest0_eq]
  iintro ⟨⟨Ha, Hv⟩, HL, Hc, -, Hg⟩
  ihave Hc := (creds_intro sw c) $$ Hc
  imodintro
  unfold before inputAt
  iclose

/-- What a device starts from, with its scoped buffers, is the body's state before the grid's one point. -/
theorem start_enter (c : Dev nD) :
    iprop(before m sw c ∗ Pipeline.prefHeld Pipeline.Prefetch.none c (fun _ => fullShare.right) (fun k => k.elim0) ∗ Pipeline.scopedRest cfg0.spec c)
      ⊢ (dats m ρ sw 0 c).Φ 0 := by
  rw [show (dats m ρ sw 0 c).Φ 0 = iprop(before m sw c ∗ scratch c) from rfl, scopedRest0_eq]
  unfold scratch
  iintro ⟨Hb, -, Hs⟩
  iclose

/-- The body's state after that point gives back what is known at the end, every semaphore at zero and the scoped buffers. -/
theorem end_leave (c : Dev nD) :
    (dats m ρ sw 0 c).Φ (Fin.last cfg0.N) ⊢ iprop((finished m sw c ∗ unscopedSems0 c) ∗ Pipeline.ownSems0 osem c ∗ Pipeline.scopedRest cfg0.spec c) := by
  rw [show (dats m ρ sw 0 c).Φ (Fin.last cfg0.N) = iprop((finished m sw c ∗ zeros c) ∗ scratch c) from rfl, scopedRest0_eq, zeros_eq]
  unfold scratch
  iintro ⟨⟨Hf, Hu, Ho⟩, Hs⟩
  iclose

/-- The staging's own waits are allowed at every time. -/
theorem stage_waits (c : Dev nD) : (levAts L lv : sProp 𝕄) ⊢ Pipeline.cellsWaits cfgs (dats m ρ sw) () 0 c :=
  Pipeline.cellsWaits_intro cfgs (dats m ρ sw) () 0 c fun w s t =>
    mayWait_low c _ (by fin_cases w <;> fin_cases s <;> decide) _ (by
      rcases t with ⟨_ | _, ht⟩
      · exact fun g u h => owedAt_pos sw c h
      · exact fun g u h => absurd h (Nat.lt_irrefl 0))

/-- What the final memory of device `c` is known to be: its barrier at zero, its input as it was, its output the source's input. -/
def Known (c : Dev nD) (s : MemSt nD τ sig (Elt F)) : Prop :=
  (∀ q : SemLoc sig, q.isScoped .tc = false → s.sem ((c.tc : Thread nD τ), q) = 0)
    ∧ s.mem ((c : Thread nD τ).loc main_arg0) = m ((c : Thread nD τ).loc main_arg0)
    ∧ s.mem ((c : Thread nD τ).loc main_v1) = m ((source sw c : Thread nD τ).loc main_arg0)

/-- What a device holds at the end determines its final memory as `Known` says. -/
theorem known (c : Dev nD) (s' : Phys nD τ sig (Elt F)) :
    iprop((finished m sw c ∗ unscopedSems0 c) ∗ emp ∗ SI s') ⊢ (|={Set.univ}=> iprop(⌜Known m sw c s'.mem⌝ ∗ SI s') : sProp 𝕄) := by
  unfold finished inputAt outputAt
  iintro ⟨⟨⟨Ha, Hv⟩, Hu⟩, -, HS⟩
  imod (Pipeline.unscopedSems0_read (X := unscopedSems0 c) (c := c) fupd_intro s') $$ [Hu HS] with ⟨%hs, HS⟩
  · iclose
  icombine HS Ha gives %ha
  icombine HS Hv gives %hv
  imodintro
  isplitr
  · ipureintro
    exact ⟨hs, Buf.eq_of_forall_mem_univ ha, Buf.eq_of_forall_mem_univ hv⟩
  · iexact HS

set_option maxRecDepth 8000 in
/-- Every execution from a memory whose every device has the permutation `perm sw`, counters at zero, terminates, with every counter
    at zero again, both arguments as they were, and each device's result its source's input block. -/
theorem run_main (hpi : ∀ c : Dev nD, m ((c : Thread nD τ).loc main_arg1) = perm sw) :
    θ_run defs (onTc (τ := τ) (main (F := F))) (init m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = m ((source sw c : Thread nD τ).loc main_arg0)) ∧ r.2.sem = fun _ => 0) :=
  Pipeline.θ_run_region_owing_glob_pf (fun p => (cfgs p).toPCfg) (fun p => (cfgs p).toPCfg_adm) (dats m ρ sw) () cellOf_inj (0 : Fin 1)
    winFacts0.to₀ osem_facts (Pipeline.PreFacts.none _) EP defs₀ 𝒱₀ m ρ main
    (hmain := fun _ => rfl)
    (hbody := fun c => (body_step m ρ sw hpi c).loose) (hne := fun w => by fin_cases w; exact Nat.succ_pos _) (harr := arr_whole0) (hstage := stage_whole0)
    (hshare := whole_share m ρ sw) (hdistinct := winFacts0.arr_inj)
    (O₀ := owedAt sw) (howed₀ := fun _ => rfl) (howedN := fun _ => rfl)
    (L := L) (lv := lv) (hL := L_of_ne) (hwaits := stage_waits m ρ sw)
    (G := minted m sw) (G' := ready m sw) (u₀ := launchElt)
    (hu₀ := by
      unfold launchElt
      iintro Hu
      ihave H := (ownU_pair _ _) $$ Hu
      icases H with ⟨HP, HX⟩
      ihave HX := (own_pair_emb (embR (A := UR sig nD τ) (B := UB × Counters)) _ _) $$ HX
      icases HX with ⟨HX, -⟩
      ihave HX := (show BI.own (((Emb.inl : Emb UB (UB × Counters)).trans (embR (A := UR sig nD τ) (B := UB × Counters))) (initOf allCells allToks))
        ⊢ (BI.own (ER (initOf allCells allToks)) : sProp 𝕄) from BIBase.Entails.rfl) $$ HX
      imod (mint m sw) $$ HX with HG
      imodintro
      isplitl [HP] <;> iassumption)
    (hglob := deal m sw)
    (hA := fun _ _ => rfl) (hpf := fun _ k => k.elim0)
    (X := before m sw) (Y := fun c => iprop(finished m sw c ∗ unscopedSems0 c)) (Z := fun _ => iprop(emp))
    (hX := start_intro m ρ sw) (hin := start_enter m ρ sw) (hout := end_leave m ρ sw)
    (QY := Known m sw) (hY := known m sw)
    (hQ := fun _ h hs => ⟨fun c => ⟨(h c).2.2.2.1, ((h c).1 (0 : Fin 1)).trans ((dats m ρ sw 0 c).arrAt_in (0 : Fin 1) rfl _), (h c).2.2.2.2⟩,
      sem_eq_zero hs fun c => (h c).2.2.1⟩)

end Cert.PermuteProof

end
-- ==== Proof.Reference.lean ====
/-
# Reference: what the reference's array is, and that its blocks are the kernel's

Of the permutation `perm sw` the reference's `argsort` is the permutation again, no index is negative, and the gather takes row
`perm sw r` of the argument at row `r`. At the ideal instance the two casts change nothing. So the reference's result is the
argument with its two blocks in the permutation's order, and block `c` of it is the argument's block `source sw c`.
-/
module

public import proofs.«01_k».proof.Proof.Mesh
public import proofs.«01_k».proof.Proof.Gen.ReferenceIdeal.Run
public import Idealize.ShloMosaic.Lib.Layout
public import Idealize.ShloMosaic.PureOps.Ideal
public import Idealize.ShloMosaic.Lib.Quiescent

@[expose] public section

noncomputable section

namespace Cert.PermuteProof

open Cert.ReferenceIdeal Cert.ReferenceIdeal.Gen
open Idealize.ShloMosaic
open Idealize.ShloMosaic.TcCoe
open Idealize.SL.Sem

/-- The index of the array of two that `k` is. -/
def at2 (k : Fin 2) : S2.Idx := fun a => match a with | ⟨0, _⟩ => k

/-- Every index of an array of two is `at2` of its coordinate. -/
theorem at2_eq (i : S2.Idx) : i = at2 (i 0) := by
  funext a
  match a with
  | ⟨0, _⟩ => rfl

/-- Two arrays of two elements are equal if they agree at `0` and at `1`. -/
theorem ext2 {α : Type} {x y : S2.Idx → α} (h : ∀ k : Fin 2, x (at2 k) = y (at2 k)) : x = y := by
  funext i
  rw [at2_eq i]
  exact h _

/-- The reference's `argsort` of the array `pi`. -/
abbrev order (pi : S2.Idx → BitVec 32) : S2.Idx → BitVec 32 :=
  (Host.sort2 S2 0 comparator_i32_i32_d0 pi (iotaInDim S2 32 0)).2

/-- Either permutation is its own inverse, which is what `argsort` gives. -/
theorem order_perm (sw : Bool) : order (perm sw) = perm sw := by
  refine ext2 ?_
  cases sw <;> decide

/-- The row numbers the gather reads: `order pi`, with two added to what is negative, as a column. -/
abbrev rowsOf (pi : S2.Idx → BitVec 32) : S2x1.Idx → BitVec 32 :=
  broadcastInDim S2x1 ![0] bcast_S2_S2x1_0
    (select (cmpi .slt (order pi) (broadcastInDim S2 ![] bcast_S_S2 (constantI S_ 32 0#32)))
      (addi (order pi) (broadcastInDim S2 ![] bcast_S_S2 (constantI S_ 32 2#32))) (order pi))

/-- No row number is negative: the column is the permutation. -/
theorem rowsOf_perm (sw : Bool) : rowsOf (perm sw) = broadcastInDim S2x1 ![0] bcast_S2_S2x1_0 (perm sw) := by
  unfold rowsOf
  rw [order_perm]
  congr 1
  refine ext2 ?_
  cases sw <;> decide

/-- The row that row `r` of the result is taken from. -/
def rowFrom (sw : Bool) (r : Fin 2) : Fin 2 := if sw then 1 - r else r

/-- The permutation's entry at `r`, read as the gather reads it. -/
theorem perm_start (sw : Bool) (r : Fin 2) : min (perm sw (at2 r)).toInt.toNat (2 - 1) = (rowFrom sw r).val := by
  revert r
  cases sw <;> decide

/-- The index of the argument that the result's index `j` is taken from. -/
def indexFrom (sw : Bool) (j : S2x2048x1024.Idx) : S2x2048x1024.Idx := fun a =>
  match a with
  | ⟨0, _⟩ => rowFrom sw (j 0)
  | ⟨1, _⟩ => j 1
  | ⟨2, _⟩ => j 2

/-- The reference's gather. -/
abbrev byRow := gather_S2x2048x1024_S2x1_S2x2048x1024_12_0_n_n_0_1_120481024

/-- The gather's operand index at `j` takes its row from the permutation and its other two coordinates from `j`. -/
theorem operandIdx_perm (sw : Bool) (j : S2x2048x1024.Idx) : byRow.operandIdx j (rowsOf (perm sw)) = indexFrom sw j := by
  rw [rowsOf_perm]
  funext a
  refine Fin.ext ?_
  match a with
  | ⟨0, _⟩ => exact perm_start sw (j 0)
  | ⟨1, _⟩ => exact Nat.zero_add _
  | ⟨2, _⟩ => exact Nat.zero_add _

/-- The array `x` with its two blocks in the permutation's order. -/
def arranged (sw : Bool) (x : S2x2048x1024.Idx → Ideal .bf16) : S2x2048x1024.Idx → Ideal .bf16 := fun j => x (indexFrom sw j)

/-- The reference's whole term, of the permutation `perm sw`, is the argument so arranged. -/
theorem value_perm (sw : Bool) (x : S2x2048x1024.Idx → Ideal .bf16) :
    (truncf .bf16 (extf .f32 (Host.gather byRow x (rowsOf (perm sw)) : FVec Ideal S2x2048x1024 .bf16) bitsLt_bf16_f32) bitsLt_bf16_f32
      : FVec Ideal S2x2048x1024 .bf16) = arranged sw x := by
  funext j
  exact congrArg x (operandIdx_perm sw j)

/-- Device `c`'s part of an array of two blocks cut along the first axis of the mesh. -/
abbrev tileOf (c : Dev Cert.KernelIdeal.nD) (v : S2x2048x1024.Idx → Ideal .bf16) : Cert.KernelIdeal.S1x2048x1024.Idx → Ideal .bf16 :=
  Layout.blockN ⟨3, ![1, 2048, 1024]⟩ ⟨3, ![2, 2048, 1024]⟩ (Layout.meshBlock [2, 2, 4] ![[0], [], []] c) v

/-- The first coordinate of the source of `c` is that of `c` sent through the permutation. -/
theorem source_block (sw : Bool) (c : Dev Cert.KernelIdeal.nD) :
    Layout.meshLin [2, 2, 4] (source sw c).val [0] = (rowFrom sw ⟨Layout.meshLin [2, 2, 4] c.val [0], by revert c; decide⟩).val := by
  revert c
  cases sw <;> decide

/-- Device `c`'s part of the arranged array is its source's part of the array. -/
theorem tileOf_arranged (sw : Bool) (c : Dev Cert.KernelIdeal.nD) (x : S2x2048x1024.Idx → Ideal .bf16) :
    tileOf (source sw c) x = tileOf c (arranged sw x) := by
  funext i
  refine congrArg x ?_
  funext a
  refine Fin.ext ?_
  have h0 : (i 0).val = 0 := Nat.lt_one_iff.mp (i 0).isLt
  match a with
  | ⟨0, _⟩ =>
    show Layout.meshLin [2, 2, 4] (source sw c).val [0] * 1 + (i 0).val = (rowFrom sw ⟨Layout.meshLin [2, 2, 4] c.val [0] * 1 + (i 0).val, _⟩).val
    simp only [h0, Nat.mul_one, Nat.add_zero]
    exact source_block sw c
  | ⟨1, _⟩ => rfl
  | ⟨2, _⟩ => rfl

/-- A reference run from the permutation `perm sw`: its result is the arranged argument, both arguments as they were. -/
theorem reference_run (sw : Bool) (m : (ℓ : Loc nD τ sig) → Buf (Elt Ideal) ℓ) (ρ : Dev nD → PrngReg)
    (hpi : m (((0 : Dev nD) : Thread nD τ).loc main_arg1) = perm sw) :
    θ_run defs (onTc (τ := τ) (main (F := Ideal))) ⟨m, fun _ => 0, ρ⟩ fun r =>
      r.2.mem (((0 : Dev nD) : Thread nD τ).loc main_v9) = arranged sw (m (((0 : Dev nD) : Thread nD τ).loc main_arg0))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) := by
  refine (θ_run defs _ _).mono (fun r h => ⟨(h 0).1.trans ?_, (h 0).2⟩) (Cert.ReferenceIdeal.Value.run m ρ)
  rw [hpi]
  exact value_perm sw _

/-- A reference run from any memory ends with both arguments as they were and every counter at zero: it has no counter. -/
theorem reference_quiet (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩)
    (Cert.ReferenceIdeal.Value.run m ρ)

end Cert.PermuteProof

end
-- ==== Proof.lean ====
/-
# The claim

Kernel and its ideal reading are one program over different float values, so both frames are the run of Proof/Launch.lean, once
for each of the two permutations. The value claims read the reference's run (Proof/Reference.lean) beside it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem Cert.PermuteProof
open Idealize.ShloMosaic.TcCoe

instance : Cert.Pre_swapped_Kernel.Facts := ⟨⟩
instance : Cert.Pre_kept_Kernel.Facts := ⟨⟩
instance : Cert.Pre_swapped_ReferenceIdeal.Facts := ⟨⟩
instance : Cert.Pre_kept_ReferenceIdeal.Facts := ⟨⟩

/-- An element-wise test for equality that is one everywhere says the two arrays are equal. -/
theorem eq_of_test {x y : Cert.KernelIdeal.S2.Idx → BitVec 32} (h : cmpi .eq x y = fun _ => 1#1) : x = y := by
  funext i
  by_contra hne
  have hi : IntOp.cmpi .eq (x i) (y i) = 1#1 := congrFun h i
  have hb : BitVec.ofBool (x i == y i) = 1#1 := hi
  rw [beq_eq_false_iff_ne.mpr hne] at hb
  exact absurd hb (by decide)

/-- The precondition `swapped` says the permutation is `[1, 0]`. -/
theorem of_swapped {F : FTy → Type} [FloatOps F] {x : FVec F Cert.KernelIdeal.S1x2048x1024 .bf16} {pi : Cert.KernelIdeal.S2.Idx → BitVec 32}
    (h : Cert.Pre_swapped_Kernel.fn (F := F) x pi = fun _ => 1#1) : pi = perm true :=
  (eq_of_test h).trans (ext2 (by decide))

/-- The precondition `kept` says the permutation is `[0, 1]`. -/
theorem of_kept {F : FTy → Type} [FloatOps F] {x : FVec F Cert.KernelIdeal.S1x2048x1024 .bf16} {pi : Cert.KernelIdeal.S2.Idx → BitVec 32}
    (h : Cert.Pre_kept_Kernel.fn (F := F) x pi = fun _ => 1#1) : pi = perm false :=
  (eq_of_test h).trans (ext2 (by decide))

/-- The run at any float values, without its results: both arguments as they were, every counter at zero. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) (sw : Bool)
    (hpi : ∀ c : Dev Cert.KernelIdeal.nD, m ((c : Thread Cert.KernelIdeal.nD Cert.KernelIdeal.τ).loc Cert.KernelIdeal.main_arg1) = perm sw) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c : Thread Cert.KernelIdeal.nD Cert.KernelIdeal.τ).loc Cert.KernelIdeal.main_arg0)
          = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1)
          = m ((c : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_main m ρ sw hpi)

/-- The kernel's body table is the ideal kernel's, at any float values. -/
theorem bodies_eq {F : FTy → Type} [FloatOps F] : Cert.Kernel.defs₀ (F := F) = Cert.KernelIdeal.defs₀ (F := F) := by
  refine congrArg Defs.onTc (funext fun l => funext fun a => ?_)
  match l, a with
  | ⟨0, _⟩, (t, s) => rfl

/-- So is the table its launch adds to. -/
theorem defs_eq {F : FTy → Type} [FloatOps F] : Cert.Kernel.defs (F := F) = Cert.KernelIdeal.defs (F := F) :=
  congrArg (Pipeline.defs (Cert.KernelIdeal.pcfgs (F := F))) bodies_eq

/-- The kernel's frame for either permutation: the ideal kernel's run, at bit patterns. -/
theorem frame_bits (sw : Bool) (m : (ℓ : Loc Cert.Kernel.nD Cert.Kernel.τ Cert.Kernel.sig) → Buf (Elt Bits) ℓ) (ρ : Dev Cert.Kernel.nD → PrngReg)
    (hpi : ∀ c : Dev Cert.Kernel.nD, m ((c : Thread Cert.Kernel.nD Cert.Kernel.τ).loc Cert.Kernel.main_arg1) = perm sw) :
    θ_run (Cert.Kernel.defs (F := Bits)) (onTc (τ := Cert.Kernel.τ) (Cert.Kernel.main (F := Bits))) ⟨m, fun _ => 0, ρ⟩
      (fun r => (∀ c : Dev Cert.Kernel.nD,
        r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1))
      ∧ r.2.sem = fun _ => 0) := by
  rw [defs_eq]
  exact frame_run (F := Bits) m ρ sw hpi

/-- The kernel's frame where the blocks are exchanged. -/
theorem frame_swapped : Cert.quiescent_Kernel := fun m ρ hp => frame_bits true m ρ fun c => of_swapped (hp c)

/-- The kernel's frame where every block stays. -/
theorem frame_kept : Cert.quiescent_Kernel_pre_kept_Kernel := fun m ρ hp => frame_bits false m ρ fun c => of_kept (hp c)

/-- The ideal kernel's frame where the blocks are exchanged. -/
theorem ideal_frame_swapped : Cert.quiescent_KernelIdeal := fun m ρ hp =>
  frame_run (F := Ideal) m ρ true fun c => of_swapped (hp c)

/-- The ideal kernel's frame where every block stays. -/
theorem ideal_frame_kept : Cert.quiescent_KernelIdeal_pre_kept_Kernel := fun m ρ hp =>
  frame_run (F := Ideal) m ρ false fun c => of_kept (hp c)

/-- Whichever the permutation, from memories that agree the kernel's results are the blocks of the reference's result. -/
theorem value (sw : Bool) (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (ρ' : Dev Cert.ReferenceIdeal.nD → PrngReg)
    (hpi : ∀ c : Dev Cert.KernelIdeal.nD, m ((c : Thread Cert.KernelIdeal.nD Cert.KernelIdeal.τ).loc Cert.KernelIdeal.main_arg1) = perm sw)
    (hagree : ∀ c : Dev Cert.KernelIdeal.nD,
      m ((c : Thread Cert.KernelIdeal.nD Cert.KernelIdeal.τ).loc Cert.KernelIdeal.main_arg0)
        = tileOf c (m' (((0 : Dev Cert.ReferenceIdeal.nD) : Thread Cert.ReferenceIdeal.nD Cert.ReferenceIdeal.τ).loc Cert.ReferenceIdeal.main_arg0))
      ∧ m ((c : Thread Cert.KernelIdeal.nD Cert.KernelIdeal.τ).loc Cert.KernelIdeal.main_arg1)
        = m' (((0 : Dev Cert.ReferenceIdeal.nD) : Thread Cert.ReferenceIdeal.nD Cert.ReferenceIdeal.τ).loc Cert.ReferenceIdeal.main_arg1)) :
    ∃ v : Cert.ReferenceIdeal.S2x2048x1024.Idx → Ideal .bf16,
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c : Thread Cert.KernelIdeal.nD Cert.KernelIdeal.τ).loc Cert.KernelIdeal.main_v1) = tileOf c v
          ∧ r.2.mem ((c : Thread Cert.KernelIdeal.nD Cert.KernelIdeal.τ).loc Cert.KernelIdeal.main_arg0)
            = m ((c : Thread Cert.KernelIdeal.nD Cert.KernelIdeal.τ).loc Cert.KernelIdeal.main_arg0)
          ∧ r.2.mem ((c : Thread Cert.KernelIdeal.nD Cert.KernelIdeal.τ).loc Cert.KernelIdeal.main_arg1)
            = m ((c : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, ρ'⟩
        (fun r =>
          r.2.mem (((0 : Dev Cert.ReferenceIdeal.nD) : Thread Cert.ReferenceIdeal.nD Cert.ReferenceIdeal.τ).loc Cert.ReferenceIdeal.main_v9) = v
          ∧ r.2.mem (((0 : Dev Cert.ReferenceIdeal.nD) : Thread Cert.ReferenceIdeal.nD Cert.ReferenceIdeal.τ).loc Cert.ReferenceIdeal.main_arg0)
            = m' (((0 : Dev Cert.ReferenceIdeal.nD) : Thread Cert.ReferenceIdeal.nD Cert.ReferenceIdeal.τ).loc Cert.ReferenceIdeal.main_arg0)
          ∧ r.2.mem (((0 : Dev Cert.ReferenceIdeal.nD) : Thread Cert.ReferenceIdeal.nD Cert.ReferenceIdeal.τ).loc Cert.ReferenceIdeal.main_arg1)
            = m' (((0 : Dev Cert.ReferenceIdeal.nD) : Thread Cert.ReferenceIdeal.nD Cert.ReferenceIdeal.τ).loc Cert.ReferenceIdeal.main_arg1)) := by
  refine ⟨arranged sw (m' (((0 : Dev Cert.ReferenceIdeal.nD) : Thread Cert.ReferenceIdeal.nD Cert.ReferenceIdeal.τ).loc Cert.ReferenceIdeal.main_arg0)),
    ?_, reference_run sw m' ρ' ((hagree 0).2.symm.trans (hpi 0))⟩
  exact (θ_run Cert.KernelIdeal.defs _ _).mono
    (fun _ h c => ⟨(h.1 c).2.2.trans ((hagree (source sw c)).1.trans (tileOf_arranged sw c _)), (h.1 c).1, (h.1 c).2.1⟩)
    (run_main (F := Ideal) m ρ sw hpi)

/-- The value claim where the blocks are exchanged. -/
theorem value_swapped : Cert.algebraic_KernelIdeal_ReferenceIdeal := fun m ρ m' ρ' hp hagree =>
  value true m ρ m' ρ' (fun c => of_swapped (hp c)) hagree

/-- The value claim where every block stays. -/
theorem value_kept : Cert.algebraic_KernelIdeal_ReferenceIdeal_pre_kept_Kernel := fun m ρ m' ρ' hp hagree =>
  value false m ρ m' ρ' (fun c => of_kept (hp c)) hagree

/-- Every claim of the certificate. -/
theorem claim : Cert.Claim :=
  ⟨Cert.Kernel.Gen.facts, Cert.KernelIdeal.Gen.facts, Cert.ReferenceIdeal.Gen.facts, inferInstance, inferInstance, inferInstance, inferInstance,
    frame_swapped, frame_kept, ideal_frame_swapped, ideal_frame_kept,
    fun m ρ _ => reference_quiet m ρ, fun m ρ _ => reference_quiet m ρ, fun m ρ _ => reference_quiet m ρ,
    trivial, value_swapped, value_kept⟩

end Cert.Proof

end
